-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_view [hPre_in_view : Cert.Pre_in_view.Facts] (m : (ℓ : Loc Cert.KernelIdeal.nD Cert.KernelIdeal.τ Cert.KernelIdeal.sig) → Buf (Elt Ideal) ℓ) : Prop :=
  ∀ c : Dev Cert.KernelIdeal.nD,
    (Cert.Pre_in_view.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_view.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_view.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_in_view.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_in_view.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_view [hPre_in_view : Cert.Pre_in_view.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_view.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_view.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_view.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_in_view.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_in_view.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_view [hKernelIdeal : Cert.KernelIdeal.Facts] [hPre_in_view : Cert.Pre_in_view.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_view m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_view [hReferenceIdeal : Cert.ReferenceIdeal.Facts] [hPre_in_view : Cert.Pre_in_view.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_view m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_view [hKernelIdeal : Cert.KernelIdeal.Facts] [hReferenceIdeal : Cert.ReferenceIdeal.Facts] [hPre_in_view : Cert.Pre_in_view.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_view m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_view : Cert.Pre_in_view.Facts),
    quiescent_Kernel (hKernel := hKernel)
    ∧ quiescent_KernelIdeal (hKernelIdeal := hKernelIdeal)
    ∧ quiescent_KernelIdeal_pre_in_view (hKernelIdeal := hKernelIdeal) (hPre_in_view := hPre_in_view)
    ∧ quiescent_ReferenceIdeal (hReferenceIdeal := hReferenceIdeal)
    ∧ quiescent_ReferenceIdeal_pre_in_view (hReferenceIdeal := hReferenceIdeal) (hPre_in_view := hPre_in_view)
    ∧ preserves_Kernel_KernelIdeal
    ∧ algebraic_KernelIdeal_ReferenceIdeal_pre_in_view (hKernelIdeal := hKernelIdeal) (hReferenceIdeal := hReferenceIdeal) (hPre_in_view := hPre_in_view)
-- ==== Pre_in_view.lean ====
abbrev S1000000x3 : Shape := ⟨2, ![1000000, 3]⟩
abbrev S1000000x1 : Shape := ⟨2, ![1000000, 1]⟩
abbrev S1000000x4 : Shape := ⟨2, ![1000000, 4]⟩
abbrev S3x3 : Shape := ⟨2, ![3, 3]⟩
abbrev S3 : Shape := ⟨1, ![3]⟩
abbrev S1x3 : Shape := ⟨2, ![1, 3]⟩
abbrev S1000000 : Shape := ⟨1, ![1000000]⟩
abbrev S_ : Shape := ⟨0, ![]⟩

class Facts : Prop where
  transposes_S3x3_S3x3_1_0 : S3x3.Transposes [1, 0] S3x3
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  slices_S1000000x3_S1000000x1_0_2 : S1000000x3.Slices ![0, 2] S1000000x1
  shapeCasts_S1000000x1_S1000000 : S1000000x1.ShapeCasts S1000000
  bcast_S_S1000000x3 : S_.BroadcastsInDim S1000000x3 (![] : Fin 0 → Fin S1000000x3.rank)
  bcast_S_S3x3 : S_.BroadcastsInDim S3x3 (![] : Fin 0 → Fin S3x3.rank)
  bcast_S_S3 : S_.BroadcastsInDim S3 (![] : Fin 0 → Fin S3.rank)
  bcast_S_S1000000 : S_.BroadcastsInDim S1000000 (![] : Fin 0 → Fin S1000000.rank)
  dot_S1000000x3_S3x3_S1000000x3_1_0_0_1_n_n_wf : DotDims.WF S1000000x3 S3x3 S1000000x3 [1] [0] [0] [1] [] []

variable [Facts]

def dot_S1000000x3_S3x3_S1000000x3_1_0_0_1_n_n : DotDims S1000000x3 S3x3 S1000000x3 where
  lhsContracting := [1]
  rhsContracting := [0]
  lhsNonContracting := [0]
  rhsNonContracting := [1]
  lhsBatch := []
  rhsBatch := []
  wf := dot_S1000000x3_S3x3_S1000000x3_1_0_0_1_n_n_wf
def fn_part1 {F : FTy → Type} [FloatOps F] (main_v6 : FVec F S1000000 .f32) (main_v9 : IVec S1000000x3 1) (main_v12 : IVec S1000000x3 1) (main_v15 : IVec S3x3 1) (main_v18 : IVec S3 1) (main_cst_3 : FVec F S_ .f32) : IVec S1000000x3 1 × IVec S1000000x3 1 × IVec S3x3 1 × IVec S3 1 × IVec S1000000 1 :=
  let main_v19 : FVec F S1000000 .f32 := broadcastInDim S1000000 ![] bcast_S_S1000000 main_cst_3
  let main_v20 : IVec S1000000 1 := cmpf .une main_v6 main_v19
  (main_v9, main_v12, main_v15, main_v18, main_v20)

def fn {F : FTy → Type} [FloatOps F] (main_arg0 : FVec F S1000000x3 .f32) (main_arg1 : FVec F S1000000x3 .f32) (main_arg2 : FVec F S1000000x1 .f32) (main_arg3 : FVec F S1000000x4 .f32) (main_arg4 : FVec F S1000000x3 .f32) (main_arg5 : FVec F S3x3 .f32) (main_arg6 : FVec F S3 .f32) : IVec S1000000x3 1 × IVec S1000000x3 1 × IVec S3x3 1 × IVec S3 1 × IVec S1000000 1 :=
  let main_v0 : FVec F S3x3 .f32 := (transpose S3x3 [1, 0] · transposes_S3x3_S3x3_1_0) main_arg5
  let main_v1 : FVec F S1000000x3 .f32 := (fun l r => Host.dotGeneral dot_S1000000x3_S3x3_S1000000x3_1_0_0_1_n_n none l r) main_arg0 main_v0
  let main_v2 : FVec F S1x3 .f32 := broadcastInDim S1x3 ![1] bcast_S3_S1x3_1 main_arg6
  let main_v3 : FVec F S1000000x3 .f32 := broadcastInDim S1000000x3 ![0, 1] bcast_S1x3_S1000000x3_0_1 main_v2
  let main_v4 : FVec F S1000000x3 .f32 := addf main_v1 main_v3
  let main_v5 : FVec F S1000000x1 .f32 := (extractStridedSlice S1000000x1 ![0, 2] · slices_S1000000x3_S1000000x1_0_2) main_v4
  let main_v6 : FVec F S1000000 .f32 := shapeCast S1000000 main_v5 shapeCasts_S1000000x1_S1000000
  let main_v7 : FVec F S1000000x3 .f32 := Host.absf main_arg0
  let main_cst : FVec F S_ .f32 := constant S_ .f32 0x7F800000#32
  let main_v8 : FVec F S1000000x3 .f32 := broadcastInDim S1000000x3 ![] bcast_S_S1000000x3 main_cst
  let main_v9 : IVec S1000000x3 1 := cmpf .olt main_v7 main_v8
  let main_v10 : FVec F S1000000x3 .f32 := Host.absf main_arg4
  let main_cst_0 : FVec F S_ .f32 := constant S_ .f32 0x7F800000#32
  let main_v11 : FVec F S1000000x3 .f32 := broadcastInDim S1000000x3 ![] bcast_S_S1000000x3 main_cst_0
  let main_v12 : IVec S1000000x3 1 := cmpf .olt main_v10 main_v11
  let main_v13 : FVec F S3x3 .f32 := Host.absf main_arg5
  let main_cst_1 : FVec F S_ .f32 := constant S_ .f32 0x7F800000#32
  let main_v14 : FVec F S3x3 .f32 := broadcastInDim S3x3 ![] bcast_S_S3x3 main_cst_1
  let main_v15 : IVec S3x3 1 := cmpf .olt main_v13 main_v14
  let main_v16 : FVec F S3 .f32 := Host.absf main_arg6
  let main_cst_2 : FVec F S_ .f32 := constant S_ .f32 0x7F800000#32
  let main_v17 : FVec F S3 .f32 := broadcastInDim S3 ![] bcast_S_S3 main_cst_2
  let main_v18 : IVec S3 1 := cmpf .olt main_v16 main_v17
  let main_cst_3 : FVec F S_ .f32 := constant S_ .f32 0x00000000#32
  fn_part1 (F := F) main_v6 main_v9 main_v12 main_v15 main_v18 main_cst_3
-- ==== Kernel.lean ====
abbrev S1000000x3 : Shape := ⟨2, ![1000000, 3]⟩
abbrev S1000000x1 : Shape := ⟨2, ![1000000, 1]⟩
abbrev S1000000x4 : Shape := ⟨2, ![1000000, 4]⟩
abbrev S3x3 : Shape := ⟨2, ![3, 3]⟩
abbrev S3 : Shape := ⟨1, ![3]⟩
abbrev S1000000x2x2 : Shape := ⟨3, ![1000000, 2, 2]⟩
abbrev S4096x3 : Shape := ⟨2, ![4096, 3]⟩
abbrev S4096x4 : Shape := ⟨2, ![4096, 4]⟩
abbrev S4096x1 : Shape := ⟨2, ![4096, 1]⟩
abbrev S4096x2x2 : Shape := ⟨3, ![4096, 2, 2]⟩
abbrev S3x4096 : Shape := ⟨2, ![3, 4096]⟩
abbrev S4x4096 : Shape := ⟨2, ![4, 4096]⟩
abbrev S1x4096 : Shape := ⟨2, ![1, 4096]⟩
abbrev S1x1 : Shape := ⟨2, ![1, 1]⟩
abbrev S1 : Shape := ⟨1, ![1]⟩
abbrev S2x4096 : Shape := ⟨2, ![2, 4096]⟩
abbrev S4096x2 : Shape := ⟨2, ![4096, 2]⟩
abbrev S4096x1x2 : Shape := ⟨3, ![4096, 1, 2]⟩

abbrev nBuf : Space → Nat
  | .hbm => 11
  | .vmem => 18
  | .smem => 2
  | _ => 0

abbrev bufTy : (tb : Table) → Fin (tcTables nBuf tb) → BufTy
  | .hbm, ⟨0, _⟩ => ⟨S1000000x3, .f32⟩
  | .hbm, ⟨1, _⟩ => ⟨S1000000x3, .f32⟩
  | .hbm, ⟨2, _⟩ => ⟨S1000000x1, .f32⟩
  | .hbm, ⟨3, _⟩ => ⟨S1000000x4, .f32⟩
  | .hbm, ⟨4, _⟩ => ⟨S1000000x3, .f32⟩
  | .hbm, ⟨5, _⟩ => ⟨S3x3, .f32⟩
  | .hbm, ⟨6, _⟩ => ⟨S3, .f32⟩
  | .hbm, ⟨7, _⟩ => ⟨S1000000x3, .f32⟩
  | .hbm, ⟨8, _⟩ => ⟨S1000000x3, .f32⟩
  | .hbm, ⟨9, _⟩ => ⟨S1000000x1, .f32⟩
  | .hbm, ⟨10, _⟩ => ⟨S1000000x2x2, .f32⟩
  | .local _ .vmem, ⟨0, _⟩ => ⟨S4096x3, .f32⟩
  | .local _ .vmem, ⟨1, _⟩ => ⟨S4096x3, .f32⟩
  | .local _ .vmem, ⟨2, _⟩ => ⟨S4096x4, .f32⟩
  | .local _ .vmem, ⟨3, _⟩ => ⟨S4096x4, .f32⟩
  | .local _ .vmem, ⟨4, _⟩ => ⟨S4096x3, .f32⟩
  | .local _ .vmem, ⟨5, _⟩ => ⟨S4096x3, .f32⟩
  | .local _ .vmem, ⟨6, _⟩ => ⟨S4096x3, .f32⟩
  | .local _ .vmem, ⟨7, _⟩ => ⟨S4096x3, .f32⟩
  | .local _ .vmem, ⟨8, _⟩ => ⟨S4096x1, .f32⟩
  | .local _ .vmem, ⟨9, _⟩ => ⟨S4096x1, .f32⟩
  | .local _ .vmem, ⟨10, _⟩ => ⟨S4096x3, .f32⟩
  | .local _ .vmem, ⟨11, _⟩ => ⟨S4096x3, .f32⟩
  | .local _ .vmem, ⟨12, _⟩ => ⟨S4096x3, .f32⟩
  | .local _ .vmem, ⟨13, _⟩ => ⟨S4096x3, .f32⟩
  | .local _ .vmem, ⟨14, _⟩ => ⟨S4096x1, .f32⟩
  | .local _ .vmem, ⟨15, _⟩ => ⟨S4096x1, .f32⟩
  | .local _ .vmem, ⟨16, _⟩ => ⟨S4096x2x2, .f32⟩
  | .local _ .vmem, ⟨17, _⟩ => ⟨S4096x2x2, .f32⟩
  | .local _ .smem, ⟨0, _⟩ => ⟨S3x3, .f32⟩
  | .local _ .smem, ⟨1, _⟩ => ⟨S3, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x2x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1000000x3 : Shape := ⟨2, ![1000000, 3]⟩
abbrev S1000000x1 : Shape := ⟨2, ![1000000, 1]⟩
abbrev S1000000x4 : Shape := ⟨2, ![1000000, 4]⟩
abbrev S3x3 : Shape := ⟨2, ![3, 3]⟩
abbrev S3 : Shape := ⟨1, ![3]⟩
abbrev S1x3 : Shape := ⟨2, ![1, 3]⟩
abbrev S1000000 : Shape := ⟨1, ![1000000]⟩
abbrev S_ : Shape := ⟨0, ![]⟩
abbrev S1000000x6 : Shape := ⟨2, ![1000000, 6]⟩
abbrev S1000000x2x3 : Shape := ⟨3, ![1000000, 2, 3]⟩
abbrev S1000000x9 : Shape := ⟨2, ![1000000, 9]⟩
abbrev S1000000x3x3 : Shape := ⟨3, ![1000000, 3, 3]⟩
abbrev S1000000x1x3 : Shape := ⟨3, ![1000000, 1, 3]⟩
abbrev S1000000x3x2 : Shape := ⟨3, ![1000000, 3, 2]⟩
abbrev S1000000x2x2 : Shape := ⟨3, ![1000000, 2, 2]⟩

abbrev nBuf : Space → Nat
  | .hbm => 168
  | .vmem => 0
  | .smem => 0
  | _ => 0

abbrev hbmTy0_0 (i : Nat) : BufTy := match i % 128 with
  | 0 => ⟨S1000000x3, .f32⟩
  | 1 => ⟨S1000000x3, .f32⟩
  | 2 => ⟨S1000000x1, .f32⟩
  | 3 => ⟨S1000000x4, .f32⟩
  | 4 => ⟨S1000000x3, .f32⟩
  | 5 => ⟨S3x3, .f32⟩
  | 6 => ⟨S3, .f32⟩
  | 7 => ⟨S3x3, .f32⟩
  | 8 => ⟨S1000000x3, .f32⟩
  | 9 => ⟨S1x3, .f32⟩
  | 10 => ⟨S1000000x3, .f32⟩
  | 11 => ⟨S1000000x3, .f32⟩
  | 12 => ⟨S1000000x1, .f32⟩
  | 13 => ⟨S1000000, .f32⟩
  | 14 => ⟨S1000000x1, .f32⟩
  | 15 => ⟨S1000000, .f32⟩
  | 16 => ⟨S1000000x1, .f32⟩
  | 17 => ⟨S1000000, .f32⟩
  | 18 => ⟨S1000000x3, .f32⟩
  | 19 => ⟨S_, .f32⟩
  | 20 => ⟨S1000000, .f32⟩
  | 21 => ⟨S1000000, .f32⟩
  | 22 => ⟨S1000000, .f32⟩
  | 23 => ⟨S1000000, .f32⟩
  | 24 => ⟨S1000000x1, .f32⟩
  | 25 => ⟨S1000000x1, .f32⟩
  | 26 => ⟨S1000000x1, .f32⟩
  | 27 => ⟨S1000000x3, .f32⟩
  | 28 => ⟨S_, .f32⟩
  | 29 => ⟨S1000000, .f32⟩
  | 30 => ⟨S1000000, .f32⟩
  | 31 => ⟨S_, .f32⟩
  | 32 => ⟨S1000000, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S1000000, .f32⟩
  | 39 => ⟨S1000000x1, .f32⟩
  | 40 => ⟨S1000000x1, .f32⟩
  | 41 => ⟨S1000000x1, .f32⟩
  | 42 => ⟨S1000000x1, .f32⟩
  | 43 => ⟨S1000000x1, .f32⟩
  | 44 => ⟨S1000000x1, .f32⟩
  | 45 => ⟨S1000000x6, .f32⟩
  | 46 => ⟨S1000000x2x3, .f32⟩
  | 47 => ⟨S1000000x4, .f32⟩
  | 48 => ⟨S_, .f32⟩
  | 49 => ⟨S1000000, .f32⟩
  | 50 => ⟨S1000000x1, .f32⟩
  | 51 => ⟨S1000000x1, .f32⟩
  | 52 => ⟨S_, .f32⟩
  | 53 => ⟨S1000000x1, .f32⟩
  | 54 => ⟨S1000000x1, .f32⟩
  | 55 => ⟨S1000000x4, .f32⟩
  | 56 => ⟨S1000000x4, .f32⟩
  | 57 => ⟨S1000000x1, .f32⟩
  | 58 => ⟨S1000000, .f32⟩
  | 59 => ⟨S1000000x1, .f32⟩
  | 60 => ⟨S1000000, .f32⟩
  | 61 => ⟨S1000000x1, .f32⟩
  | 62 => ⟨S1000000, .f32⟩
  | 63 => ⟨S1000000x1, .f32⟩
  | 64 => ⟨S1000000, .f32⟩
  | 65 => ⟨S1000000, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S1000000, .f32⟩
  | 81 => ⟨S1000000, .f32⟩
  | 82 => ⟨S1000000, .f32⟩
  | 83 => ⟨S_, .f32⟩
  | 84 => ⟨S1000000, .f32⟩
  | 85 => ⟨S1000000, .f32⟩
  | 86 => ⟨S1000000, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S1000000, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S1000000, .f32⟩
  | 102 => ⟨S1000000, .f32⟩
  | 103 => ⟨S1000000, .f32⟩
  | 104 => ⟨S_, .f32⟩
  | 105 => ⟨S1000000, .f32⟩
  | 106 => ⟨S1000000, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S1000000, .f32⟩
  | 115 => ⟨S1000000, .f32⟩
  | 116 => ⟨S_, .f32⟩
  | 117 => ⟨S1000000, .f32⟩
  | 118 => ⟨S1000000, .f32⟩
  | 119 => ⟨S1000000, .f32⟩
  | 120 => ⟨S1000000, .f32⟩
  | 121 => ⟨S1000000, .f32⟩
  | 122 => ⟨S_, .f32⟩
  | 123 => ⟨S1000000, .f32⟩
  | 124 => ⟨S1000000, .f32⟩
  | 125 => ⟨S_, .f32⟩
  | 126 => ⟨S1000000, .f32⟩
  | 127 => ⟨S1000000, .f32⟩
  | _ => ⟨S1000000x3, .f32⟩

abbrev hbmTy0_1 (i : Nat) : BufTy := match i % 128 with
  | 0 => ⟨S1000000x1, .f32⟩
  | 1 => ⟨S1000000x1, .f32⟩
  | 2 => ⟨S1000000x1, .f32⟩
  | 3 => ⟨S1000000x1, .f32⟩
  | 4 => ⟨S1000000x1, .f32⟩
  | 5 => ⟨S1000000x1, .f32⟩
  | 6 => ⟨S1000000x1, .f32⟩
  | 7 => ⟨S1000000x1, .f32⟩
  | 8 => ⟨S1000000x1, .f32⟩
  | 9 => ⟨S1000000x9, .f32⟩
  | 10 => ⟨S1000000x3x3, .f32⟩
  | 11 => ⟨S1000000x3, .f32⟩
  | 12 => ⟨S_, .f32⟩
  | 13 => ⟨S1000000x3, .f32⟩
  | 14 => ⟨S1000000x3, .f32⟩
  | 15 => ⟨S1000000x1x3, .f32⟩
  | 16 => ⟨S1000000x3x3, .f32⟩
  | 17 => ⟨S1000000x3x3, .f32⟩
  | 18 => ⟨S1000000x3x3, .f32⟩
  | 19 => ⟨S1000000x3x3, .f32⟩
  | 20 => ⟨S1000000x2x3, .f32⟩
  | 21 => ⟨S1000000x2x3, .f32⟩
  | 22 => ⟨S1000000x3x2, .f32⟩
  | 23 => ⟨S1000000x2x2, .f32⟩
  | 24 => ⟨S1000000x3, .f32⟩
  | 25 => ⟨S1000000x3, .f32⟩
  | 26 => ⟨S_, .f32⟩
  | 27 => ⟨S1000000x3, .f32⟩
  | 28 => ⟨S1000000x3, .f32⟩
  | 29 => ⟨S_, .f32⟩
  | 30 => ⟨S1000000x3, .f32⟩
  | 31 => ⟨S1000000x3, .f32⟩
  | 32 => ⟨S1000000x1, .f32⟩
  | 33 => ⟨S1000000x1, .f32⟩
  | 34 => ⟨S_, .f32⟩
  | 35 => ⟨S1000000x1, .f32⟩
  | 36 => ⟨S1000000x1, .f32⟩
  | 37 => ⟨S_, .f32⟩
  | 38 => ⟨S1000000x1, .f32⟩
  | 39 => ⟨S1000000x1, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_2 : Ref sig .tc := ⟨.hbm, 68, rfl⟩
abbrev main_v51 : Ref sig .tc := ⟨.hbm, 69, rfl⟩
abbrev main_v52 : Ref sig .tc := ⟨.hbm, 70, rfl⟩
abbrev main_cst_3 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_4 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_cst_8 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_11 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_12 : Ref sig .tc := ⟨.hbm, 122, rfl⟩
abbrev main_v95 : Ref sig .tc := ⟨.hbm, 123, rfl⟩
abbrev main_v96 : Ref sig .tc := ⟨.hbm, 124, rfl⟩
abbrev main_cst_13 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_14 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_15 : Ref sig .tc := ⟨.hbm, 154, rfl⟩
abbrev main_v124 : Ref sig .tc := ⟨.hbm, 155, rfl⟩
abbrev main_v125 : Ref sig .tc := ⟨.hbm, 156, rfl⟩
abbrev main_cst_16 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_17 : Ref sig .tc := ⟨.hbm, 162, rfl⟩
abbrev main_v130 : Ref sig .tc := ⟨.hbm, 163, rfl⟩
abbrev main_v131 : Ref sig .tc := ⟨.hbm, 164, rfl⟩
abbrev main_cst_18 : Ref sig .tc := ⟨.hbm, 165, rfl⟩
abbrev main_v132 : Ref sig .tc := ⟨.hbm, 166, rfl⟩
abbrev main_v133 : Ref sig .tc := ⟨.hbm, 167, rfl⟩

abbrev nD : Nat := 1
abbrev τ : Topo := Topo.v7x

variable {F : FTy → Type} [FloatOps F]
-- ==== Proof.Row.lean ====
/-
  One point of the cloud, as the kernel computes it: the scalar formulas one row of the inputs goes through. They are
  written over any float values, so the same text serves the bit-level run and the exact one. `RowMath.lean` reads them
  over the extended reals.
-/
module

public import proofs.«01_k».proof.Proof.Gen.KernelIdeal

@[expose] public section

noncomputable section

namespace Cert.Splat

open Idealize.ShloMosaic

variable {F : FTy → Type} [FloatOps F]

/-- The three products of two triples, added from the left. -/
def dot3 (a b : Fin 3 → F .f32) : F .f32 :=
  FloatOps.addf (FloatOps.addf (FloatOps.mulf (a 0) (b 0)) (FloatOps.mulf (a 1) (b 1))) (FloatOps.mulf (a 2) (b 2))

/-- The point in camera coordinates: rotated by `r`, then moved by `t`. -/
def camera (p : Fin 3 → F .f32) (r : Fin 3 → Fin 3 → F .f32) (t : Fin 3 → F .f32) (i : Fin 3) : F .f32 :=
  FloatOps.addf (dot3 p (r i)) (t i)

/-- One over the depth. -/
def invDepth (p : Fin 3 → F .f32) (r : Fin 3 → Fin 3 → F .f32) (t : Fin 3 → F .f32) : F .f32 :=
  FloatOps.divf (Scalar.ofBits .f32 0x3F800000#32 : F .f32) (camera p r t 2)

/-- A camera coordinate times one over the depth. -/
def planar (p : Fin 3 → F .f32) (r : Fin 3 → Fin 3 → F .f32) (t : Fin 3 → F .f32) (i : Fin 3) : F .f32 :=
  FloatOps.mulf (camera p r t i) (invDepth p r t)

/-- The row of the first result: the two plane coordinates and the distance to the camera. -/
def imageRow (p : Fin 3 → F .f32) (r : Fin 3 → Fin 3 → F .f32) (t : Fin 3 → F .f32) : Fin 3 → F .f32 :=
  ![planar p r t 0, planar p r t 1, FloatOps.sqrt (dot3 (camera p r t) (camera p r t))]

/-- One over the quaternion's length, the length moved off zero. -/
def invLength (q : Fin 4 → F .f32) : F .f32 :=
  FloatOps.divf (Scalar.ofBits .f32 0x3F800000#32 : F .f32)
    (FloatOps.addf
      (FloatOps.sqrt (FloatOps.addf (FloatOps.addf (FloatOps.addf (FloatOps.mulf (q 0) (q 0)) (FloatOps.mulf (q 1) (q 1)))
        (FloatOps.mulf (q 2) (q 2))) (FloatOps.mulf (q 3) (q 3))))
      (Scalar.ofBits .f32 0x322BCC77#32 : F .f32))

/-- A coordinate of the quaternion divided by its length. -/
def unit (q : Fin 4 → F .f32) (k : Fin 4) : F .f32 := FloatOps.mulf (q k) (invLength q)

/-- `2 * a`. -/
def twice (a : F .f32) : F .f32 := FloatOps.mulf (Scalar.ofBits .f32 0x40000000#32 : F .f32) a

/-- `1 - 2 * (a * a + b * b)`: a diagonal entry of the rotation. -/
def onDiag (a b : F .f32) : F .f32 :=
  FloatOps.subf (Scalar.ofBits .f32 0x3F800000#32 : F .f32) (twice (FloatOps.addf (FloatOps.mulf a a) (FloatOps.mulf b b)))

/-- `2 * (a * b + c * d)`. -/
def offPlus (a b c d : F .f32) : F .f32 := twice (FloatOps.addf (FloatOps.mulf a b) (FloatOps.mulf c d))

/-- `2 * (a * b - c * d)`. -/
def offMinus (a b c d : F .f32) : F .f32 := twice (FloatOps.subf (FloatOps.mulf a b) (FloatOps.mulf c d))

/-- The rotation matrix of the unit quaternion `(u 0, u 1, u 2, u 3)`, real part first. -/
def rotation (u : Fin 4 → F .f32) : Fin 3 → Fin 3 → F .f32 :=
  ![![onDiag (u 2) (u 3), offMinus (u 1) (u 2) (u 0) (u 3), offPlus (u 1) (u 3) (u 0) (u 2)],
    ![offPlus (u 1) (u 2) (u 0) (u 3), onDiag (u 1) (u 3), offMinus (u 2) (u 3) (u 0) (u 1)],
    ![offMinus (u 1) (u 3) (u 0) (u 2), offPlus (u 2) (u 3) (u 0) (u 1), onDiag (u 1) (u 2)]]

/-- A scale, its sign dropped and moved off zero. -/
def extent (s : F .f32) : F .f32 := FloatOps.addf (FloatOps.absf s) (Scalar.ofBits .f32 0x38D1B717#32 : F .f32)

/-- The rotation with its columns scaled. -/
def axes (q : Fin 4 → F .f32) (s : Fin 3 → F .f32) (i j : Fin 3) : F .f32 := FloatOps.mulf (rotation (unit q) i j) (extent (s j))

/-- The covariance in space, the six entries on and above the diagonal each used twice. -/
def spatial (q : Fin 4 → F .f32) (s : Fin 3 → F .f32) : Fin 3 → Fin 3 → F .f32 :=
  ![![dot3 (axes q s 0) (axes q s 0), dot3 (axes q s 0) (axes q s 1), dot3 (axes q s 0) (axes q s 2)],
    ![dot3 (axes q s 0) (axes q s 1), dot3 (axes q s 1) (axes q s 1), dot3 (axes q s 1) (axes q s 2)],
    ![dot3 (axes q s 0) (axes q s 2), dot3 (axes q s 1) (axes q s 2), dot3 (axes q s 2) (axes q s 2)]]

/-- A row of the projection's derivative times the camera's rotation. -/
def slope (p : Fin 3 → F .f32) (r : Fin 3 → Fin 3 → F .f32) (t : Fin 3 → F .f32) (i j : Fin 3) : F .f32 :=
  FloatOps.mulf (invDepth p r t) (FloatOps.subf (r i j) (FloatOps.mulf (planar p r t i) (r 2 j)))

/-- A quadratic form: `a` times the symmetric matrix `m` times `b`. -/
def form (a b : Fin 3 → F .f32) (m : Fin 3 → Fin 3 → F .f32) : F .f32 := dot3 (fun j => dot3 a (m j)) b

/-- The row of the covariance result: both entries off the diagonal are the same number. -/
def planeCov (p : Fin 3 → F .f32) (q : Fin 4 → F .f32) (s : Fin 3 → F .f32) (r : Fin 3 → Fin 3 → F .f32) (t : Fin 3 → F .f32) : Fin 2 → Fin 2 → F .f32 :=
  ![![form (slope p r t 0) (slope p r t 0) (spatial q s), form (slope p r t 0) (slope p r t 1) (spatial q s)],
    ![form (slope p r t 0) (slope p r t 1) (spatial q s), form (slope p r t 1) (slope p r t 1) (spatial q s)]]

end Cert.Splat
-- ==== Proof.Body.lean ====
/-
  What one run of the kernel's body leaves in its four output blocks: every row of a block is a function of the same row
  of the input blocks and of the camera (`Row.lean`). Over any float values.
-/
module

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import proofs.«01_k».proof.Proof.Row
public import Idealize.ShloMosaic.Lib.PointwiseCore
public import Idealize.ShloMosaic.Lib.WholeRead
public import Idealize.ShloMosaic.Lib.VecWindow
public import Idealize.ShloMosaic.Lib.Ring
public import Idealize.ShloMosaic.Lib.Tactic

@[expose] public section

set_option maxRecDepth 16384

noncomputable section

namespace Cert.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The camera's rotation as a table of scalars. -/
def rotOf (r : Vec F S3x3 .f32) (i j : Fin 3) : F .f32 := r (ix2 i j)

/-- The camera's position as a table of scalars. -/
def tranOf (t : Vec F S3 .f32) (i : Fin 3) : F .f32 := t (ix1 i)

/-- The block of plane coordinates and distances. -/
def imageBlock (p : Vec F S4096x3 .f32) (r : Vec F S3x3 .f32) (t : Vec F S3 .f32) : Vec F S4096x3 .f32 :=
  fun y => imageRow (fun k => p (ix2 (y 0) k)) (rotOf r) (tranOf t) (y 1)

/-- The block of colours. -/
def colourBlock (x : Vec F S4096x3 .f32) : Vec F S4096x3 .f32 := fun y => FloatOps.logistic (x y)

/-- The block of opacities. -/
def opacityBlock (x : Vec F S4096x1 .f32) : Vec F S4096x1 .f32 := fun y => FloatOps.logistic (x y)

/-- The block of covariances in the image plane. -/
def covBlock (p : Vec F S4096x3 .f32) (q : Vec F S4096x4 .f32) (s : Vec F S4096x3 .f32) (r : Vec F S3x3 .f32) (t : Vec F S3 .f32) :
    Vec F S4096x2x2 .f32 :=
  fun y => planeCov (fun k => p (ix2 (y 0) k)) (fun k => q (ix2 (y 0) k)) (fun k => s (ix2 (y 0) k)) (rotOf r) (tranOf t) (y 1) (y 2)

/-- A load of the whole of a buffer that holds `x` reads `x`. -/
theorem load_all {sp : Space} {s : Shape} {m : Memref sig .tc sp s .f32} (h : m.IsWhole) (x : Vec F s .f32) {off : Fin s.rank → ℕ}
    (inb : ∀ a, off a + s.size a ≤ s.size a) :
    View.readAt (Elt F) m.view (Rect.unit off (no_index s.size) inb).toLoadRect (h.unread x) = x := by
  rw [View.readAt_full, h.read_unread]

/-- A load of the one entry of the rotation at row `a`, column `b`. -/
theorem load_rot {m : Memref sig .tc .smem S3x3 .f32} (h : m.IsWhole) (r : Vec F S3x3 .f32) (a b : ℕ)
    (inb : ∀ k, (![a, b] : Fin 2 → ℕ) k + (![1, 1] : Fin 2 → ℕ) k ≤ S3x3.size k) (y : S1x1.Idx) :
    View.readAt (Elt F) m.view (Rect.unit (s := S3x3) ![a, b] ![1, 1] inb).toLoadRect (h.unread r) y
      = rotOf r ⟨a, inb 0⟩ ⟨b, inb 1⟩ := by
  rw [h.readAt_unread]
  refine congrArg r (funext fun k => Fin.ext ?_)
  have := (y k).isLt
  fin_cases k <;> simp_all [S1x1, Rect.unit]

/-- A load of the one entry of the position at place `a`. -/
theorem load_tran {m : Memref sig .tc .smem S3 .f32} (h : m.IsWhole) (t : Vec F S3 .f32) (a : ℕ)
    (inb : ∀ k, (![a] : Fin 1 → ℕ) k + (![1] : Fin 1 → ℕ) k ≤ S3.size k) (y : S1.Idx) :
    View.readAt (Elt F) m.view (Rect.unit (s := S3) ![a] ![1] inb).toLoadRect (h.unread t) y = tranOf t ⟨a, inb 0⟩ := by
  rw [h.readAt_unread]
  refine congrArg t (funext fun k => Fin.ext ?_)
  have := (y k).isLt
  fin_cases k <;> simp_all [S1, Rect.unit]

theorem two_cases (k : Fin 2) : k = 0 ∨ k = 1 := by omega

theorem three_cases (k : Fin 3) : k = 0 ∨ k = 1 ∨ k = 2 := by omega

/-- Where the store of row `a` of every covariance puts the entry `x`. -/
theorem place_cov (a : ℕ) (inb : ∀ k, (![0, a, 0] : Fin 3 → ℕ) k + (![4096, 1, 2] : Fin 3 → ℕ) k ≤ S4096x2x2.size k)
    (x : (Rect.unit (s := S4096x2x2) ![0, a, 0] ![4096, 1, 2] inb).shape.Idx) :
    (Rect.unit (s := S4096x2x2) ![0, a, 0] ![4096, 1, 2] inb).emb x = ix3 (x 0) ⟨a, inb 1⟩ (x 2) := by
  have := (x 1).isLt
  refine funext fun k => Fin.ext ?_
  match k with
  | ⟨0, _⟩ => change 0 + 1 * (x 0).val = (x 0).val; omega
  | ⟨1, _⟩ =>
    have h : (x 1).val < 1 := this
    change a + 1 * (x 1).val = a; omega
  | ⟨2, _⟩ => change 0 + 1 * (x 2).val = (x 2).val; omega

set_option maxHeartbeats 400000 in
/-- One run of the body, on buffers of any place: the inputs are left as they were, and the outputs hold the four blocks
    computed from them, whatever they held before. -/
theorem body_run (c : Dev nD) (i : grid0.Coords)
    (pos : Memref sig .tc .vmem S4096x3 .f32) (hpos : pos.IsWhole) (quat : Memref sig .tc .vmem S4096x4 .f32) (hquat : quat.IsWhole)
    (scl : Memref sig .tc .vmem S4096x3 .f32) (hscl : scl.IsWhole) (rgb : Memref sig .tc .vmem S4096x3 .f32) (hrgb : rgb.IsWhole)
    (opa : Memref sig .tc .vmem S4096x1 .f32) (hopa : opa.IsWhole) (rot : Memref sig .tc .smem S3x3 .f32) (hrot : rot.IsWhole)
    (tran : Memref sig .tc .smem S3 .f32) (htran : tran.IsWhole) (oImg : Memref sig .tc .vmem S4096x3 .f32) (hoImg : oImg.IsWhole)
    (oRgb : Memref sig .tc .vmem S4096x3 .f32) (hoRgb : oRgb.IsWhole) (oOpa : Memref sig .tc .vmem S4096x1 .f32) (hoOpa : oOpa.IsWhole)
    (oCov : Memref sig .tc .vmem S4096x2x2 .f32) (hoCov : oCov.IsWhole)
    (p : Vec F S4096x3 .f32) (q : Vec F S4096x4 .f32) (s g : Vec F S4096x3 .f32) (o : Vec F S4096x1 .f32) (r : Vec F S3x3 .f32)
    (t : Vec F S3 .f32) (E : Set ℕ) (K : PUnit → sProp 𝕄) :
    iprop(owns (c : Thread nD τ) pos fullShare p ∗ owns (c : Thread nD τ) quat fullShare q ∗ owns (c : Thread nD τ) scl fullShare s
        ∗ owns (c : Thread nD τ) rgb fullShare g ∗ owns (c : Thread nD τ) opa fullShare o ∗ owns (c : Thread nD τ) rot fullShare r
        ∗ owns (c : Thread nD τ) tran fullShare t ∗ (∃ d, owns (c : Thread nD τ) oImg fullShare d) ∗ (∃ d, owns (c : Thread nD τ) oRgb fullShare d)
        ∗ (∃ d, owns (c : Thread nD τ) oOpa fullShare d) ∗ (∃ d, owns (c : Thread nD τ) oCov fullShare d)
        ∗ (iprop(owns (c : Thread nD τ) pos fullShare p ∗ owns (c : Thread nD τ) quat fullShare q ∗ owns (c : Thread nD τ) scl fullShare s
            ∗ owns (c : Thread nD τ) rgb fullShare g ∗ owns (c : Thread nD τ) opa fullShare o ∗ owns (c : Thread nD τ) rot fullShare r
            ∗ owns (c : Thread nD τ) tran fullShare t ∗ owns (c : Thread nD τ) oImg fullShare (imageBlock p r t)
            ∗ owns (c : Thread nD τ) oRgb fullShare (colourBlock g) ∗ owns (c : Thread nD τ) oOpa fullShare (opacityBlock o)
            ∗ owns (c : Thread nD τ) oCov fullShare (covBlock p q s r t)) -∗ K ⟨⟩))
      ⊢ wp frame (wpE (defs₀ (F := F)) Variants.none c none) E
          (cc0__body i pos hpos quat hquat scl hscl rgb hrgb opa hopa rot hrot tran htran oImg hoImg oRgb hoRgb oOpa hoOpa oCov hoCov) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := hpos.eq_unread hf0; obtain rfl := hquat.eq_unread hf1; obtain rfl := hscl.eq_unread hf2
  obtain rfl := hrgb.eq_unread hf3; obtain rfl := hopa.eq_unread hf4; obtain rfl := hrot.eq_unread hf5; obtain rfl := htran.eq_unread hf6
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr; swap
    · iexact H7
    ipureintro
    rw [View.read_writes_full]
    sl_unfold_words
    simp only [load_all, load_rot, load_tran]
    funext y
    idx_vars y
    obtain rfl | rfl | rfl := three_cases y1
    all_goals
      unfold_payloads
      pointwise
      rfl
  isplitl [H8]
  · iexists _; isplitr; swap
    · iexact H8
    ipureintro
    refine (View.read_writes_full _ _ _ _ _).trans ?_
    sl_unfold_words
    simp only [load_all]
    funext y
    idx_vars y
    unfold_payloads
    pointwise
    rfl
  isplitl [H9]
  · iexists _; isplitr; swap
    · iexact H9
    ipureintro
    refine (View.read_writes_full _ _ _ _ _).trans ?_
    sl_unfold_words
    simp only [load_all]
    funext y
    idx_vars y
    obtain rfl : y1 = 0 := Subsingleton.elim _ _
    unfold_payloads
    pointwise
    rfl
  iexists _; isplitr; swap
  · iexact H10
  ipureintro
  funext y
  refine View.read_writes_apply_of_pieces (v := oCov.view) (f := f10) (covBlock p q s r t) _ ?_ y
    (View.cover_of_tiledL (s := S4096x2x2) _ ![4096, 1, 2] (by sl_kernel_rfl) y)
  intro w hw
  obtain rfl | hw := List.mem_cons.mp hw
  · sl_unfold_words
    simp only [load_all, load_rot, load_tran]
    intro x
    rw [place_cov]
    idx_vars x
    obtain rfl | rfl := two_cases x2
    all_goals
      unfold_payloads
      pointwise
      rfl
  obtain rfl | hw := List.mem_cons.mp hw
  · sl_unfold_words
    simp only [load_all, load_rot, load_tran]
    intro x
    rw [place_cov]
    idx_vars x
    obtain rfl | rfl := two_cases x2
    all_goals
      unfold_payloads
      pointwise
      rfl
  · exact absurd hw List.not_mem_nil

end Cert.Splat
-- ==== Proof.Region.lean ====
/-
  The run of the whole grid: at every point the body leaves its output blocks as functions of its input blocks
  (`Body.lean`), on the rows inside the arrays — the last point's blocks overhang them, and what the buffers hold past
  the end is never written back. Over any float values; from it, that the run ends with the arguments as launched.
-/
module

public import proofs.«01_k».proof.Proof.Body
public import Idealize.ShloMosaic.Lib.Pipeline.KitQuiescent
public import Idealize.ShloMosaic.Lib.Claim

@[expose] public section

set_option maxRecDepth 16384

noncomputable section

namespace Cert.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Rows inside the arrays -/

/-- Two fills of one block, over different earlier contents, agree at every index the fill reaches. -/
theorem fill_agree {G : Pipeline.Grid} (w : Window sig G) {α : Type} (i : G.Coords) (d d' : w.block.Idx → α) (g : (w.xblock i).Idx → α)
    (j : w.block.Idx) (h : w.moved i j = true) : w.fill i d g j = w.fill i d' g j := by
  unfold Window.fill; rw [dif_pos h, dif_pos h]

/-- How many rows of the blocks at point `t` lie inside the arrays. -/
def rowsAt (t : Fin grid0.N) : ℕ := win0_0.xsize (grid0.coords t) 0

theorem sizes_0 : ∀ t : Fin grid0.N, win0_0.xsize (grid0.coords t) 0 = rowsAt t ∧ win0_0.xsize (grid0.coords t) 1 = 3 := by decide +kernel
theorem sizes_1 : ∀ t : Fin grid0.N, win0_1.xsize (grid0.coords t) 0 = rowsAt t ∧ win0_1.xsize (grid0.coords t) 1 = 4 := by decide +kernel
theorem sizes_2 : ∀ t : Fin grid0.N, win0_2.xsize (grid0.coords t) 0 = rowsAt t ∧ win0_2.xsize (grid0.coords t) 1 = 3 := by decide +kernel
theorem sizes_3 : ∀ t : Fin grid0.N, win0_3.xsize (grid0.coords t) 0 = rowsAt t ∧ win0_3.xsize (grid0.coords t) 1 = 3 := by decide +kernel
theorem sizes_4 : ∀ t : Fin grid0.N, win0_4.xsize (grid0.coords t) 0 = rowsAt t ∧ win0_4.xsize (grid0.coords t) 1 = 1 := by decide +kernel
theorem sizes_7 : ∀ t : Fin grid0.N, win0_7.xsize (grid0.coords t) 0 = rowsAt t ∧ win0_7.xsize (grid0.coords t) 1 = 3 := by decide +kernel
theorem sizes_8 : ∀ t : Fin grid0.N, win0_8.xsize (grid0.coords t) 0 = rowsAt t ∧ win0_8.xsize (grid0.coords t) 1 = 3 := by decide +kernel
theorem sizes_9 : ∀ t : Fin grid0.N, win0_9.xsize (grid0.coords t) 0 = rowsAt t ∧ win0_9.xsize (grid0.coords t) 1 = 1 := by decide +kernel
theorem sizes_10 : ∀ t : Fin grid0.N, win0_10.xsize (grid0.coords t) 0 = rowsAt t := by decide +kernel

/-- A row inside the arrays is fetched whole: positions, -/
theorem moved_0 (t : Fin grid0.N) (n : Fin 4096) (k : Fin 3) (h : n.val < rowsAt t) : win0_0.moved (grid0.coords t) (ix2 n k) = true :=
  (win0_0.moved_iff _ _).mpr fun a => match a with
    | ⟨0, _⟩ => (sizes_0 t).1.symm ▸ h
    | ⟨1, _⟩ => (sizes_0 t).2.symm ▸ k.isLt
/-- quaternions, -/
theorem moved_1 (t : Fin grid0.N) (n : Fin 4096) (k : Fin 4) (h : n.val < rowsAt t) : win0_1.moved (grid0.coords t) (ix2 n k) = true :=
  (win0_1.moved_iff _ _).mpr fun a => match a with
    | ⟨0, _⟩ => (sizes_1 t).1.symm ▸ h
    | ⟨1, _⟩ => (sizes_1 t).2.symm ▸ k.isLt
/-- scales, -/
theorem moved_2 (t : Fin grid0.N) (n : Fin 4096) (k : Fin 3) (h : n.val < rowsAt t) : win0_2.moved (grid0.coords t) (ix2 n k) = true :=
  (win0_2.moved_iff _ _).mpr fun a => match a with
    | ⟨0, _⟩ => (sizes_2 t).1.symm ▸ h
    | ⟨1, _⟩ => (sizes_2 t).2.symm ▸ k.isLt
/-- colours, -/
theorem moved_3 (t : Fin grid0.N) (n : Fin 4096) (k : Fin 3) (h : n.val < rowsAt t) : win0_3.moved (grid0.coords t) (ix2 n k) = true :=
  (win0_3.moved_iff _ _).mpr fun a => match a with
    | ⟨0, _⟩ => (sizes_3 t).1.symm ▸ h
    | ⟨1, _⟩ => (sizes_3 t).2.symm ▸ k.isLt
/-- opacities. -/
theorem moved_4 (t : Fin grid0.N) (n : Fin 4096) (k : Fin 1) (h : n.val < rowsAt t) : win0_4.moved (grid0.coords t) (ix2 n k) = true :=
  (win0_4.moved_iff _ _).mpr fun a => match a with
    | ⟨0, _⟩ => (sizes_4 t).1.symm ▸ h
    | ⟨1, _⟩ => (sizes_4 t).2.symm ▸ k.isLt

/-! ## What the buffers hold -/

/-- The input buffers once point `t`'s blocks have been fetched over contents `d`. -/
abbrev held0 (c : Dev nD) (t : Fin cfg0.N) (d : Vec F S4096x3 .f32) : Vec F S4096x3 .f32 := win0_0.fill (grid0.coords t) d (iblk m c 0 t)
abbrev held1 (c : Dev nD) (t : Fin cfg0.N) (d : Vec F S4096x4 .f32) : Vec F S4096x4 .f32 := win0_1.fill (grid0.coords t) d (iblk m c 1 t)
abbrev held2 (c : Dev nD) (t : Fin cfg0.N) (d : Vec F S4096x3 .f32) : Vec F S4096x3 .f32 := win0_2.fill (grid0.coords t) d (iblk m c 2 t)
abbrev held3 (c : Dev nD) (t : Fin cfg0.N) (d : Vec F S4096x3 .f32) : Vec F S4096x3 .f32 := win0_3.fill (grid0.coords t) d (iblk m c 3 t)
abbrev held4 (c : Dev nD) (t : Fin cfg0.N) (d : Vec F S4096x1 .f32) : Vec F S4096x1 .f32 := win0_4.fill (grid0.coords t) d (iblk m c 4 t)

/-- Zeros, for the rows past the arrays' end, of which nothing is claimed. -/
abbrev blank (s : Shape) : Vec F s .f32 := fun _ => Scalar.ofBits .f32 0#32

/-- The rotation and the camera's position, whole at every point. -/
abbrev rotAt (c : Dev nD) (t : Fin cfg0.N) : Vec F S3x3 .f32 := iblk m c 5 t
abbrev tranAt (c : Dev nD) (t : Fin cfg0.N) : Vec F S3 .f32 := iblk m c 6 t

/-- What each buffer holds after the body at each point, up to the rows past the arrays' end; the arrays as launched. -/
def dats (_ : Fin 1) (c : Dev nD) : Dat τ (Elt F) Unit ℕ (UR sig nD τ) ℕ cfg0 c where
  A w := V m c (Pipeline.arrRef spec0 w)
  after w t := match w with
    | ⟨0, _⟩ => held0 m c t (blank _)
    | ⟨1, _⟩ => held1 m c t (blank _)
    | ⟨2, _⟩ => held2 m c t (blank _)
    | ⟨3, _⟩ => held3 m c t (blank _)
    | ⟨4, _⟩ => held4 m c t (blank _)
    | ⟨5, _⟩ => iblk m c 5 t
    | ⟨6, _⟩ => iblk m c 6 t
    | ⟨7, _⟩ => imageBlock (held0 m c t (blank _)) (rotAt m c t) (tranAt m c t)
    | ⟨8, _⟩ => colourBlock (held3 m c t (blank _))
    | ⟨9, _⟩ => opacityBlock (held4 m c t (blank _))
    | ⟨10, _⟩ => covBlock (held0 m c t (blank _)) (held1 m c t (blank _)) (held2 m c t (blank _)) (rotAt m c t) (tranAt m c t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = held0 m c t (blank _) := by dsimp only [dats]
theorem after_1 (c : Dev nD) (t : Fin cfg0.N) : (dats m 0 c).after 1 t = held1 m c t (blank _) := by dsimp only [dats]
theorem after_2 (c : Dev nD) (t : Fin cfg0.N) : (dats m 0 c).after 2 t = held2 m c t (blank _) := by dsimp only [dats]
theorem after_3 (c : Dev nD) (t : Fin cfg0.N) : (dats m 0 c).after 3 t = held3 m c t (blank _) := by dsimp only [dats]
theorem after_4 (c : Dev nD) (t : Fin cfg0.N) : (dats m 0 c).after 4 t = held4 m c t (blank _) := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) :
    (dats m 0 c).after 7 t = imageBlock (held0 m c t (blank _)) (rotAt m c t) (tranAt m c t) := by dsimp only [dats]
theorem after_8 (c : Dev nD) (t : Fin cfg0.N) : (dats m 0 c).after 8 t = colourBlock (held3 m c t (blank _)) := by dsimp only [dats]
theorem after_9 (c : Dev nD) (t : Fin cfg0.N) : (dats m 0 c).after 9 t = opacityBlock (held4 m c t (blank _)) := by dsimp only [dats]
theorem after_10 (c : Dev nD) (t : Fin cfg0.N) : (dats m 0 c).after 10 t
    = covBlock (held0 m c t (blank _)) (held1 m c t (blank _)) (held2 m c t (blank _)) (rotAt m c t) (tranAt m c t) := by dsimp only [dats]

theorem before_0 (c : Dev nD) (t : Fin cfg0.N) (d) : (dats m 0 c).before 0 t d = held0 m c t d := by
  unfold Dat.before; rw [if_pos (fetch0_0 t)]; rfl
theorem before_1 (c : Dev nD) (t : Fin cfg0.N) (d) : (dats m 0 c).before 1 t d = held1 m c t d := by
  unfold Dat.before; rw [if_pos (fetch0_1 t)]; rfl
theorem before_2 (c : Dev nD) (t : Fin cfg0.N) (d) : (dats m 0 c).before 2 t d = held2 m c t d := by
  unfold Dat.before; rw [if_pos (fetch0_2 t)]; rfl
theorem before_3 (c : Dev nD) (t : Fin cfg0.N) (d) : (dats m 0 c).before 3 t d = held3 m c t d := by
  unfold Dat.before; rw [if_pos (fetch0_3 t)]; rfl
theorem before_4 (c : Dev nD) (t : Fin cfg0.N) (d) : (dats m 0 c).before 4 t d = held4 m c t d := by
  unfold Dat.before; rw [if_pos (fetch0_4 t)]; rfl
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d

/-! ## The rows written back do not see past the arrays' end -/

theorem image_rows (c : Dev nD) (t : Fin cfg0.N) (d : Vec F S4096x3 .f32) :
    win0_7.cut (grid0.coords t) (imageBlock (held0 m c t d) (rotAt m c t) (tranAt m c t))
      = win0_7.cut (grid0.coords t) (imageBlock (held0 m c t (blank _)) (rotAt m c t) (tranAt m c t)) := by
  funext j
  have hn : (win0_7.xinj (grid0.coords t) j 0).val < rowsAt t := (sizes_7 t).1 ▸ (j 0).isLt
  have hp : (fun k => held0 m c t d (ix2 (win0_7.xinj (grid0.coords t) j 0) k))
      = fun k => held0 m c t (blank _) (ix2 (win0_7.xinj (grid0.coords t) j 0) k) :=
    funext fun k => fill_agree win0_0 _ _ _ _ _ (moved_0 t _ k hn)
  exact congrArg (fun p => imageRow p _ _ _) hp

theorem colour_rows (c : Dev nD) (t : Fin cfg0.N) (d : Vec F S4096x3 .f32) :
    win0_8.cut (grid0.coords t) (colourBlock (held3 m c t d)) = win0_8.cut (grid0.coords t) (colourBlock (held3 m c t (blank _))) := by
  funext j
  refine congrArg FloatOps.logistic (fill_agree win0_3 _ _ _ _ _ ?_)
  refine (win0_3.moved_iff _ _).mpr fun a => ?_
  match a with
  | ⟨0, _⟩ => exact ((j 0).isLt.trans_eq (sizes_8 t).1).trans_eq (sizes_3 t).1.symm
  | ⟨1, _⟩ => exact ((j 1).isLt.trans_eq (sizes_8 t).2).trans_eq (sizes_3 t).2.symm

theorem opacity_rows (c : Dev nD) (t : Fin cfg0.N) (d : Vec F S4096x1 .f32) :
    win0_9.cut (grid0.coords t) (opacityBlock (held4 m c t d)) = win0_9.cut (grid0.coords t) (opacityBlock (held4 m c t (blank _))) := by
  funext j
  refine congrArg FloatOps.logistic (fill_agree win0_4 _ _ _ _ _ ?_)
  refine (win0_4.moved_iff _ _).mpr fun a => ?_
  match a with
  | ⟨0, _⟩ => exact ((j 0).isLt.trans_eq (sizes_9 t).1).trans_eq (sizes_4 t).1.symm
  | ⟨1, _⟩ => exact ((j 1).isLt.trans_eq (sizes_9 t).2).trans_eq (sizes_4 t).2.symm

theorem cov_rows (c : Dev nD) (t : Fin cfg0.N) (d0 : Vec F S4096x3 .f32) (d1 : Vec F S4096x4 .f32) (d2 : Vec F S4096x3 .f32) :
    win0_10.cut (grid0.coords t) (covBlock (held0 m c t d0) (held1 m c t d1) (held2 m c t d2) (rotAt m c t) (tranAt m c t))
      = win0_10.cut (grid0.coords t)
          (covBlock (held0 m c t (blank _)) (held1 m c t (blank _)) (held2 m c t (blank _)) (rotAt m c t) (tranAt m c t)) := by
  funext j
  have hn : (win0_10.xinj (grid0.coords t) j 0).val < rowsAt t := sizes_10 t ▸ (j 0).isLt
  have hp : (fun k => held0 m c t d0 (ix2 (win0_10.xinj (grid0.coords t) j 0) k))
      = fun k => held0 m c t (blank _) (ix2 (win0_10.xinj (grid0.coords t) j 0) k) :=
    funext fun k => fill_agree win0_0 _ _ _ _ _ (moved_0 t _ k hn)
  have hq : (fun k => held1 m c t d1 (ix2 (win0_10.xinj (grid0.coords t) j 0) k))
      = fun k => held1 m c t (blank _) (ix2 (win0_10.xinj (grid0.coords t) j 0) k) :=
    funext fun k => fill_agree win0_1 _ _ _ _ _ (moved_1 t _ k hn)
  have hs : (fun k => held2 m c t d2 (ix2 (win0_10.xinj (grid0.coords t) j 0) k))
      = fun k => held2 m c t (blank _) (ix2 (win0_10.xinj (grid0.coords t) j 0) k) :=
    funext fun k => fill_agree win0_2 _ _ _ _ _ (moved_2 t _ k hn)
  change planeCov _ _ _ _ _ _ _ = planeCov _ _ _ _ _ _ _
  rw [hp, hq, hs]

/-! ## The body at every point -/

theorem body_row (t : Fin cfg0.N) : defs₀ (F := F) .tc cfg0.body (cfg0.bodyArgs t (cfg0.slots t)) = bodyAt0 t := by
  unfold defs₀; rw [Defs.onTc_tc]

/-- A buffer holding `X` meets what is asked of it when `X` and the contents named agree on the rows inside the array. -/
theorem hand_back (c : Dev nD) (w : Window sig grid0) (i : grid0.Coords) (M : Memref sig .tc (.core w.stageSpace) w.block w.elt)
    (X Y : w.block.Idx → Elt F w.elt) (h : w.cut i X = w.cut i Y) :
    (owns (c : Thread nD τ) M fullShare X : sProp 𝕄) ⊢ iprop(∃ d, owns (c : Thread nD τ) M fullShare (w.fill i d (w.cut i Y))) := by
  iintro H; iexists X; rw [← h, w.fill_cut]; iexact H

/-- A buffer handed back as it was fetched holds its block on the rows inside the array. -/
theorem cut_held (w : Window sig grid0) (i : grid0.Coords) (d d' : w.block.Idx → Elt F w.elt) (g : (w.xblock i).Idx → Elt F w.elt) :
    w.cut i (w.fill i d g) = w.cut i (w.fill i d' g) := (w.cut_fill i d g).trans (w.cut_fill i d' g).symm

theorem body_obligation (c : Dev nD) : BodyObligationLoose (dats (F := F) m 0 c) (defs₀ (F := F)) Variants.none () Set.univ := fun t => by
  rw [bigSep_W0, bigSep_W0, body_row]
  unfold bodyAt0
  simp only
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ (held0 m c t d0) (held1 m c t d1) (held2 m c t d2)
    (held3 m c t d3) (held4 m c t d4) (rotAt m c t) (tranAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iapply (hand_back c win0_0 (grid0.coords t) _ _ _ (cut_held win0_0 _ _ _ _)); iexact H0
  isplitl [H1]; · iapply (hand_back c win0_1 (grid0.coords t) _ _ _ (cut_held win0_1 _ _ _ _)); iexact H1
  isplitl [H2]; · iapply (hand_back c win0_2 (grid0.coords t) _ _ _ (cut_held win0_2 _ _ _ _)); iexact H2
  isplitl [H3]; · iapply (hand_back c win0_3 (grid0.coords t) _ _ _ (cut_held win0_3 _ _ _ _)); iexact H3
  isplitl [H4]; · iapply (hand_back c win0_4 (grid0.coords t) _ _ _ (cut_held win0_4 _ _ _ _)); iexact H4
  isplitl [H5]; · iexact H5
  isplitl [H6]; · iexact H6
  isplitl [H7]; · iapply (hand_back c win0_7 (grid0.coords t) _ _ _ (image_rows m c t d0)); iexact H7
  isplitl [H8]; · iapply (hand_back c win0_8 (grid0.coords t) _ _ _ (colour_rows m c t d3)); iexact H8
  isplitl [H9]; · iapply (hand_back c win0_9 (grid0.coords t) _ _ _ (opacity_rows m c t d4)); iexact H9
  iapply (hand_back c win0_10 (grid0.coords t) _ _ _ (cov_rows m c t d0 d1 d2)); iexact H10

/-! ## The run -/

-- the implicit arguments are found by unifying the conclusion with this one, unfolding plain definitions in types
set_option backward.isDefEq.respectTransparency.types false in
/-- Every run of the program ends with its arrays at what the blocks written back leave and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := arrays_eq m) (hΦ := fun _ _ => rfl)

/-- The arguments end as they were launched, and every counter at zero. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (arrays_eq m) ((θ_run defs _ _).mono (fun _ h => h.1) (run_main m ρ)))
    ((θ_run defs _ _).mono (fun _ h => h.2) (run_main m ρ))

end Cert.Splat

end
-- ==== Proof.Frames.lean ====
/-
  The frame claims: the kernel, its reading over the extended reals and the reference each run to the end, leave their
  arguments as launched and every counter at zero. The kernel and its reading are one program over two kinds of float,
  so what is proved over any floats serves both.
-/
module

public import proofs.«01_k».proof.Defs
public import proofs.«01_k».proof.Proof.Gen.Kernel
public import proofs.«01_k».proof.Proof.Gen.ReferenceIdeal.Run
public import proofs.«01_k».proof.Proof.Region

@[expose] public section

noncomputable section

namespace Cert.Splat

open Idealize.ShloMosaic Idealize.ShloMosaic.Tactic Idealize.SL.Sem

variable {F : FTy → Type} [FloatOps F]

/-- The kernel and its reading over the extended reals are the same program. -/
theorem main_same : Cert.Kernel.main (F := F) = Cert.KernelIdeal.main (F := F) := by sl_kernel_rfl

/-- So are the bodies they call. -/
theorem defs_same : Cert.Kernel.defs (F := F) = Cert.KernelIdeal.defs (F := F) := by sl_kernel_rfl

theorem frame_kernel : Cert.quiescent_Kernel := fun m g _ => by
  rw [main_same, defs_same]
  exact arguments_kept (F := Bits) m g

theorem frame_ideal : Cert.quiescent_KernelIdeal := fun m g _ => arguments_kept (F := Ideal) m g

/-- The reference runs no transfer: its results and arguments are what its operations leave. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

end Cert.Splat

end
-- ==== Proof.RefStages.lean ====
/-
  The reference, cut into the steps its text names: the camera coordinates, the derivative of the projection, the unit
  quaternion, its rotation, the scaled axes, and the two covariances. Its run's results are these steps put together.
  Over any float values.
-/
module

public import proofs.«01_k».proof.Proof.Gen.ReferenceIdeal.Run

@[expose] public section

set_option maxRecDepth 16384

noncomputable section

namespace Cert.Splat.Ref

open Cert.ReferenceIdeal Cert.ReferenceIdeal.Gen
open Idealize.ShloMosaic Idealize.ShloMosaic.TcCoe

variable {F : FTy → Type} [FloatOps F]

/-- The positions in camera coordinates. -/
def camera (p : Vec F S1000000x3 .f32) (r : Vec F S3x3 .f32) (t : Vec F S3 .f32) : Vec F S1000000x3 .f32 :=
  addf (Host.dotGeneral dot_S1000000x3_S3x3_S1000000x3_1_0_0_1_n_n none p (transpose S3x3 [1, 0] r transposes_S3x3_S3x3_1_0))
    (broadcastInDim S1000000x3 ![0, 1] bcast_S1x3_S1000000x3_0_1 (broadcastInDim S1x3 ![1] bcast_S3_S1x3_1 t))

/-- The columns of a table of triples. -/
def col0 (v : Vec F S1000000x3 .f32) : Vec F S1000000 .f32 :=
  shapeCast _ (extractStridedSlice S1000000x1 ![0, 0] v slices_S1000000x3_S1000000x1_0_0) shapeCasts_S1000000x1_S1000000
def col1 (v : Vec F S1000000x3 .f32) : Vec F S1000000 .f32 :=
  shapeCast _ (extractStridedSlice S1000000x1 ![0, 1] v slices_S1000000x3_S1000000x1_0_1) shapeCasts_S1000000x1_S1000000
def col2 (v : Vec F S1000000x3 .f32) : Vec F S1000000 .f32 :=
  shapeCast _ (extractStridedSlice S1000000x1 ![0, 2] v slices_S1000000x3_S1000000x1_0_2) shapeCasts_S1000000x1_S1000000

/-- The columns of a table of quadruples. -/
def quad0 (v : Vec F S1000000x4 .f32) : Vec F S1000000 .f32 :=
  shapeCast _ (extractStridedSlice S1000000x1 ![0, 0] v slices_S1000000x4_S1000000x1_0_0) shapeCasts_S1000000x1_S1000000
def quad1 (v : Vec F S1000000x4 .f32) : Vec F S1000000 .f32 :=
  shapeCast _ (extractStridedSlice S1000000x1 ![0, 1] v slices_S1000000x4_S1000000x1_0_1) shapeCasts_S1000000x1_S1000000
def quad2 (v : Vec F S1000000x4 .f32) : Vec F S1000000 .f32 :=
  shapeCast _ (extractStridedSlice S1000000x1 ![0, 2] v slices_S1000000x4_S1000000x1_0_2) shapeCasts_S1000000x1_S1000000
def quad3 (v : Vec F S1000000x4 .f32) : Vec F S1000000 .f32 :=
  shapeCast _ (extractStridedSlice S1000000x1 ![0, 3] v slices_S1000000x4_S1000000x1_0_3) shapeCasts_S1000000x1_S1000000

/-- A list of numbers as a table of one column, to be stacked beside others. -/
def upright (v : Vec F S1000000 .f32) : Vec F S1000000x1 .f32 := broadcastInDim S1000000x1 ![0] bcast_S1000000_S1000000x1_0 v

/-- One number repeated. -/
def fill (b : BitVec 32) : Vec F S1000000 .f32 := broadcastInDim S1000000 ![] bcast_S_S1000000 (constant S_ .f32 b)

/-- The first result, from the camera coordinates. -/
def image (v : Vec F S1000000x3 .f32) : Vec F S1000000x3 .f32 :=
  concatenate S1000000x3 1
    [⟨S1000000x1, upright (Host.divf (col0 v) (col2 v))⟩, ⟨S1000000x1, upright (Host.divf (col1 v) (col2 v))⟩,
      ⟨S1000000x1, upright (Host.sqrt (Host.reduceAdd (mulf v v) (constant S_ .f32 0x00000000#32) reducesTo_S1000000x3_S1000000_d1 h_S_))⟩]
    concatenates_S1000000x1_S1000000x1_S1000000x1_S1000000x3_d1

/-- One over the depth. -/
def invDepth (v : Vec F S1000000x3 .f32) : Vec F S1000000 .f32 := Host.divf (fill 0x3F800000#32) (col2 v)

/-- Minus a coordinate times one over the depth, twice. -/
def pull (x z : Vec F S1000000 .f32) : Vec F S1000000 .f32 := mulf (mulf (Host.negf x) z) z

/-- The derivative of the projection. -/
def jacobian (v : Vec F S1000000x3 .f32) : Vec F S1000000x2x3 .f32 :=
  shapeCast _ (concatenate S1000000x6 1
    [⟨S1000000x1, upright (invDepth v)⟩, ⟨S1000000x1, upright (fill 0x00000000#32)⟩, ⟨S1000000x1, upright (pull (col0 v) (invDepth v))⟩,
      ⟨S1000000x1, upright (fill 0x00000000#32)⟩, ⟨S1000000x1, upright (invDepth v)⟩, ⟨S1000000x1, upright (pull (col1 v) (invDepth v))⟩]
    concatenates_S1000000x1_S1000000x1_S1000000x1_S1000000x1_S1000000x1_S1000000x1_S1000000x6_d1 : Vec F S1000000x6 .f32)
    shapeCasts_S1000000x6_S1000000x2x3

/-- The derivative times the camera's rotation. -/
def slopes (v : Vec F S1000000x3 .f32) (r : Vec F S3x3 .f32) : Vec F S1000000x2x3 .f32 :=
  Host.dotGeneral dot_S1000000x2x3_S3x3_S1000000x2x3_2_0_01_1_n_n none (jacobian v) r

/-- The quaternions divided by their lengths. -/
def unit (q : Vec F S1000000x4 .f32) : Vec F S1000000x4 .f32 :=
  Host.divf q (broadcastInDim S1000000x4 ![0, 1] bcast_S1000000x1_S1000000x4_0_1
    (addf (Host.sqrt (broadcastInDim S1000000x1 ![0] bcast_S1000000_S1000000x1_0
        (Host.reduceAdd (mulf q q) (constant S_ .f32 0x00000000#32) reducesTo_S1000000x4_S1000000_d1 h_S_)))
      (broadcastInDim S1000000x1 ![] bcast_S_S1000000x1 (constant S_ .f32 0x322BCC77#32))))

/-- The entries of the rotation: on the diagonal, and the two kinds off it. -/
def onDiag (a b : Vec F S1000000 .f32) : Vec F S1000000 .f32 :=
  subf (fill 0x3F800000#32) (mulf (fill 0x40000000#32) (addf (mulf a a) (mulf b b)))
def offPlus (a b c d : Vec F S1000000 .f32) : Vec F S1000000 .f32 := mulf (fill 0x40000000#32) (addf (mulf a b) (mulf c d))
def offMinus (a b c d : Vec F S1000000 .f32) : Vec F S1000000 .f32 := mulf (fill 0x40000000#32) (subf (mulf a b) (mulf c d))

/-- The rotation of the unit quaternions. -/
def rotation (u : Vec F S1000000x4 .f32) : Vec F S1000000x3x3 .f32 :=
  shapeCast _ (concatenate S1000000x9 1
    [⟨S1000000x1, upright (onDiag (quad2 u) (quad3 u))⟩, ⟨S1000000x1, upright (offMinus (quad1 u) (quad2 u) (quad0 u) (quad3 u))⟩,
      ⟨S1000000x1, upright (offPlus (quad1 u) (quad3 u) (quad0 u) (quad2 u))⟩, ⟨S1000000x1, upright (offPlus (quad1 u) (quad2 u) (quad0 u) (quad3 u))⟩,
      ⟨S1000000x1, upright (onDiag (quad1 u) (quad3 u))⟩, ⟨S1000000x1, upright (offMinus (quad2 u) (quad3 u) (quad0 u) (quad1 u))⟩,
      ⟨S1000000x1, upright (offMinus (quad1 u) (quad3 u) (quad0 u) (quad2 u))⟩, ⟨S1000000x1, upright (offPlus (quad2 u) (quad3 u) (quad0 u) (quad1 u))⟩,
      ⟨S1000000x1, upright (onDiag (quad1 u) (quad2 u))⟩]
    concatenates_S1000000x1_S1000000x1_S1000000x1_S1000000x1_S1000000x1_S1000000x1_S1000000x1_S1000000x1_S1000000x1_S1000000x9_d1 : Vec F S1000000x9 .f32)
    shapeCasts_S1000000x9_S1000000x3x3

/-- The rotation with its columns scaled. -/
def axes (q : Vec F S1000000x4 .f32) (s : Vec F S1000000x3 .f32) : Vec F S1000000x3x3 .f32 :=
  mulf (rotation (unit q)) (broadcastInDim S1000000x3x3 ![0, 1, 2] bcast_S1000000x1x3_S1000000x3x3_0_1_2
    (broadcastInDim S1000000x1x3 ![0, 2] bcast_S1000000x3_S1000000x1x3_0_2
      (addf (Host.absf s) (broadcastInDim S1000000x3 ![] bcast_S_S1000000x3 (constant S_ .f32 0x38D1B717#32)))))

/-- The covariance in space, from the scaled axes. -/
def spatial (a : Vec F S1000000x3x3 .f32) : Vec F S1000000x3x3 .f32 :=
  Host.dotGeneral dot_S1000000x3x3_S1000000x3x3_S1000000x3x3_2_1_1_2_0_0 none a
    (transpose S1000000x3x3 [0, 2, 1] a transposes_S1000000x3x3_S1000000x3x3_0_2_1)

/-- The covariance in the image plane, from the slopes and the covariance in space. -/
def planeCov (w : Vec F S1000000x2x3 .f32) (m : Vec F S1000000x3x3 .f32) : Vec F S1000000x2x2 .f32 :=
  Host.dotGeneral dot_S1000000x2x3_S1000000x3x2_S1000000x2x2_2_1_1_2_0_0 none
    (Host.dotGeneral dot_S1000000x2x3_S1000000x3x3_S1000000x2x3_2_1_1_2_0_0 none w m)
    (transpose S1000000x3x2 [0, 2, 1] w transposes_S1000000x2x3_S1000000x3x2_0_2_1)

/-- The covariance result is the last of these steps. -/
theorem result_cov (m : (ℓ : Loc nD τ sig) → Buf (Elt F) ℓ) (c : Dev nD) :
    Value.res_main_v121 m c
      = planeCov (slopes (camera (m ((c.tc : Thread nD τ).loc main_arg0)) (m ((c.tc : Thread nD τ).loc main_arg5)) (m ((c.tc : Thread nD τ).loc main_arg6)))
            (m ((c.tc : Thread nD τ).loc main_arg5)))
          (spatial (axes (m ((c.tc : Thread nD τ).loc main_arg3)) (m ((c.tc : Thread nD τ).loc main_arg4)))) := rfl

end Cert.Splat.Ref

end
-- ==== Proof.Arrays.lean ====
/-
  The four result arrays once the grid has run: each row of each is what `Row.lean` makes of the same row of the
  arguments. The blocks cover the arrays, and the rows of a block inside them are read off the arrays in place.
-/
module

public import proofs.«01_k».proof.Proof.Region
public import Idealize.ShloMosaic.Lib.Pipeline.ValueKit.Geometry

@[expose] public section

set_option maxRecDepth 16384

noncomputable section

namespace Cert.Splat

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The results as functions of the arguments -/

/-- The plane coordinates and distances of every point. -/
def imageOut (p : Vec F S1000000x3 .f32) (r : Vec F S3x3 .f32) (t : Vec F S3 .f32) : Vec F S1000000x3 .f32 :=
  fun y => imageRow (fun k => p (ix2 (y 0) k)) (rotOf r) (tranOf t) (y 1)

/-- The colours of every point. -/
def colourOut (x : Vec F S1000000x3 .f32) : Vec F S1000000x3 .f32 := fun y => FloatOps.logistic (x y)

/-- The opacity of every point. -/
def opacityOut (x : Vec F S1000000x1 .f32) : Vec F S1000000x1 .f32 := fun y => FloatOps.logistic (x y)

/-- The covariance in the image plane of every point. -/
def covOut (p : Vec F S1000000x3 .f32) (q : Vec F S1000000x4 .f32) (s : Vec F S1000000x3 .f32) (r : Vec F S3x3 .f32) (t : Vec F S3 .f32) :
    Vec F S1000000x2x2 .f32 :=
  fun y => planeCov (fun k => p (ix2 (y 0) k)) (fun k => q (ix2 (y 0) k)) (fun k => s (ix2 (y 0) k)) (rotOf r) (tranOf t) (y 1) (y 2)

/-! ## Where the blocks lie -/

theorem at_0 : ∀ t : Fin grid0.N, win0_0.index t = ![(grid0.coords t 0).val, 0] := by decide +kernel
theorem at_1 : ∀ t : Fin grid0.N, win0_1.index t = ![(grid0.coords t 0).val, 0] := by decide +kernel
theorem at_2 : ∀ t : Fin grid0.N, win0_2.index t = ![(grid0.coords t 0).val, 0] := by decide +kernel
theorem at_3 : ∀ t : Fin grid0.N, win0_3.index t = ![(grid0.coords t 0).val, 0] := by decide +kernel
theorem at_4 : ∀ t : Fin grid0.N, win0_4.index t = ![(grid0.coords t 0).val, 0] := by decide +kernel
theorem at_7 : ∀ t : Fin grid0.N, win0_7.index t = ![(grid0.coords t 0).val, 0] := by decide +kernel
theorem at_8 : ∀ t : Fin grid0.N, win0_8.index t = ![(grid0.coords t 0).val, 0] := by decide +kernel
theorem at_9 : ∀ t : Fin grid0.N, win0_9.index t = ![(grid0.coords t 0).val, 0] := by decide +kernel
theorem at_10 : ∀ t : Fin grid0.N, win0_10.index t = ![(grid0.coords t 0).val, 0, 0] := by decide +kernel

theorem rows_inside : ∀ t : Fin grid0.N, (grid0.coords t 0).val * 4096 + rowsAt t ≤ 1000000 := by decide +kernel

/-- The row of the arrays that row `n` of the blocks at point `t` is. -/
def rowOf (t : Fin grid0.N) (n : ℕ) (h : n < rowsAt t) : Fin 1000000 := ⟨(grid0.coords t 0).val * 4096 + n, by have := rows_inside t; omega⟩

/-! ## Rows of the input blocks -/

/-- A fill at an index it reaches is what it is filled with. -/
theorem fill_at {G : Pipeline.Grid} (w : Window sig G) {α : Type} (i : G.Coords) (d : w.block.Idx → α) (g : (w.xblock i).Idx → α)
    (j : w.block.Idx) (h : w.moved i j = true) : w.fill i d g j = g fun a => ⟨(j a).val, (w.moved_iff i j).mp h a⟩ := by
  unfold Window.fill; rw [dif_pos h]

theorem held0_row (c : Dev nD) (t : Fin grid0.N) (d) (n : Fin 4096) (k : Fin 3) (h : n.val < rowsAt t) :
    held0 m c t d (ix2 n k) = m ((c : Thread nD τ).loc main_arg0) (ix2 (rowOf t n.val h) k) := by
  refine (fill_at win0_0 _ _ _ _ (moved_0 t n k h)).trans ?_
  change _ = V m c main_arg0 _
  blk_ext [iblk, at_0]
  all_goals simp [rowOf]

theorem held1_row (c : Dev nD) (t : Fin grid0.N) (d) (n : Fin 4096) (k : Fin 4) (h : n.val < rowsAt t) :
    held1 m c t d (ix2 n k) = m ((c : Thread nD τ).loc main_arg3) (ix2 (rowOf t n.val h) k) := by
  refine (fill_at win0_1 _ _ _ _ (moved_1 t n k h)).trans ?_
  change _ = V m c main_arg3 _
  blk_ext [iblk, at_1]
  all_goals simp [rowOf]

theorem held2_row (c : Dev nD) (t : Fin grid0.N) (d) (n : Fin 4096) (k : Fin 3) (h : n.val < rowsAt t) :
    held2 m c t d (ix2 n k) = m ((c : Thread nD τ).loc main_arg4) (ix2 (rowOf t n.val h) k) := by
  refine (fill_at win0_2 _ _ _ _ (moved_2 t n k h)).trans ?_
  change _ = V m c main_arg4 _
  blk_ext [iblk, at_2]
  all_goals simp [rowOf]

theorem held3_row (c : Dev nD) (t : Fin grid0.N) (d) (n : Fin 4096) (k : Fin 3) (h : n.val < rowsAt t) :
    held3 m c t d (ix2 n k) = m ((c : Thread nD τ).loc main_arg1) (ix2 (rowOf t n.val h) k) := by
  refine (fill_at win0_3 _ _ _ _ (moved_3 t n k h)).trans ?_
  change _ = V m c main_arg1 _
  blk_ext [iblk, at_3]
  all_goals simp [rowOf]

theorem held4_row (c : Dev nD) (t : Fin grid0.N) (d) (n : Fin 4096) (k : Fin 1) (h : n.val < rowsAt t) :
    held4 m c t d (ix2 n k) = m ((c : Thread nD τ).loc main_arg2) (ix2 (rowOf t n.val h) k) := by
  refine (fill_at win0_4 _ _ _ _ (moved_4 t n k h)).trans ?_
  change _ = V m c main_arg2 _
  blk_ext [iblk, at_4]
  all_goals simp [rowOf]

/-- The camera's rotation and position are each one block. -/
theorem rotAt_eq (c : Dev nD) (t : Fin grid0.N) : rotAt m c t = m ((c : Thread nD τ).loc main_arg5) := by
  funext y
  change _ = V m c main_arg5 _
  blk_ext [iblk, (by decide +kernel : ∀ t : Fin grid0.N, win0_5.index t = ![0, 0])]
theorem tranAt_eq (c : Dev nD) (t : Fin grid0.N) : tranAt m c t = m ((c : Thread nD τ).loc main_arg6) := by
  funext y
  change _ = V m c main_arg6 _
  blk_ext [iblk, (by decide +kernel : ∀ t : Fin grid0.N, win0_6.index t = ![0])]

/-! ## The arrays at the end -/

theorem image_array (c : Dev nD) : (dats m 0 c).arrAt 7 cfg0.N
    = imageOut (m ((c : Thread nD τ).loc main_arg0)) (m ((c : Thread nD τ).loc main_arg5)) (m ((c : Thread nD τ).loc main_arg6)) := by
  refine (dats m 0 c).arrAt_eq_of_covers 7 _ (by decide +kernel) fun t hf y => ?_
  rw [after_7, rotAt_eq, tranAt_eq]
  have hn : (y 0).val < rowsAt t := (sizes_7 t).1 ▸ (y 0).isLt
  have h0 : ((cfg0.win 7).blk t).view.emb y 0 = rowOf t (y 0).val hn := by
    apply Fin.ext; blk_simp [at_7]; rfl
  have h1 : ((cfg0.win 7).blk t).view.emb y 1 = win0_7.xinj (grid0.coords t) y 1 := by
    apply Fin.ext; blk_simp [at_7]
  have hp : (fun k => held0 m c t (blank _) (ix2 (win0_7.xinj (grid0.coords t) y 0) k))
      = fun k => m ((c : Thread nD τ).loc main_arg0) (ix2 (((cfg0.win 7).blk t).view.emb y 0) k) :=
    funext fun k => (held0_row m c t _ _ k hn).trans (by rw [h0])
  change imageRow _ _ _ _ = imageRow _ _ _ _
  rw [hp, h1]; rfl

theorem colour_array (c : Dev nD) : (dats m 0 c).arrAt 8 cfg0.N = colourOut (m ((c : Thread nD τ).loc main_arg1)) := by
  refine (dats m 0 c).arrAt_eq_of_covers 8 _ (by decide +kernel) fun t hf y => ?_
  rw [after_8]
  have hn : (y 0).val < rowsAt t := (sizes_8 t).1 ▸ (y 0).isLt
  refine congrArg FloatOps.logistic ?_
  have e : win0_8.xinj (grid0.coords t) y = ix2 (win0_8.xinj (grid0.coords t) y 0) (win0_8.xinj (grid0.coords t) y 1) := by
    funext a; fin_cases a <;> rfl
  rw [e]
  refine (held3_row m c t _ _ _ hn).trans (congrArg _ ?_)
  blk_ext [at_8]
  all_goals simp [rowOf]

theorem opacity_array (c : Dev nD) : (dats m 0 c).arrAt 9 cfg0.N = opacityOut (m ((c : Thread nD τ).loc main_arg2)) := by
  refine (dats m 0 c).arrAt_eq_of_covers 9 _ (by decide +kernel) fun t hf y => ?_
  rw [after_9]
  have hn : (y 0).val < rowsAt t := (sizes_9 t).1 ▸ (y 0).isLt
  refine congrArg FloatOps.logistic ?_
  have e : win0_9.xinj (grid0.coords t) y = ix2 (win0_9.xinj (grid0.coords t) y 0) (win0_9.xinj (grid0.coords t) y 1) := by
    funext a; fin_cases a <;> rfl
  rw [e]
  refine (held4_row m c t _ _ _ hn).trans (congrArg _ ?_)
  blk_ext [at_9]
  all_goals simp [rowOf]

theorem cov_array (c : Dev nD) : (dats m 0 c).arrAt 10 cfg0.N
    = covOut (m ((c : Thread nD τ).loc main_arg0)) (m ((c : Thread nD τ).loc main_arg3)) (m ((c : Thread nD τ).loc main_arg4))
        (m ((c : Thread nD τ).loc main_arg5)) (m ((c : Thread nD τ).loc main_arg6)) := by
  refine (dats m 0 c).arrAt_eq_of_covers 10 _ (by decide +kernel) fun t hf y => ?_
  rw [after_10, rotAt_eq, tranAt_eq]
  have hn : (y 0).val < rowsAt t := sizes_10 t ▸ (y 0).isLt
  have h0 : ((cfg0.win 10).blk t).view.emb y 0 = rowOf t (y 0).val hn := by
    apply Fin.ext; blk_simp [at_10]; rfl
  have h1 : ((cfg0.win 10).blk t).view.emb y 1 = win0_10.xinj (grid0.coords t) y 1 := by
    apply Fin.ext; blk_simp [at_10]
  have h2 : ((cfg0.win 10).blk t).view.emb y 2 = win0_10.xinj (grid0.coords t) y 2 := by
    apply Fin.ext; blk_simp [at_10]
  have hp : (fun k => held0 m c t (blank _) (ix2 (win0_10.xinj (grid0.coords t) y 0) k))
      = fun k => m ((c : Thread nD τ).loc main_arg0) (ix2 (((cfg0.win 10).blk t).view.emb y 0) k) :=
    funext fun k => (held0_row m c t _ _ k hn).trans (by rw [h0])
  have hq : (fun k => held1 m c t (blank _) (ix2 (win0_10.xinj (grid0.coords t) y 0) k))
      = fun k => m ((c : Thread nD τ).loc main_arg3) (ix2 (((cfg0.win 10).blk t).view.emb y 0) k) :=
    funext fun k => (held1_row m c t _ _ k hn).trans (by rw [h0])
  have hs : (fun k => held2 m c t (blank _) (ix2 (win0_10.xinj (grid0.coords t) y 0) k))
      = fun k => m ((c : Thread nD τ).loc main_arg4) (ix2 (((cfg0.win 10).blk t).view.emb y 0) k) :=
    funext fun k => (held2_row m c t _ _ k hn).trans (by rw [h0])
  change planeCov _ _ _ _ _ _ _ = planeCov _ _ _ _ _ _ _
  rw [hp, hq, hs, h1, h2]; rfl

/-- Every run leaves the four results as functions of the arguments, and the arguments as launched. -/
theorem results : θ_run defs (onTc (τ := τ) (main (F := F))) ⟨m, fun _ => 0, ρ⟩ (fun r => ∀ c : Dev nD,
      r.2.mem ((c.tc : Thread nD τ).loc main_v0_0)
        = imageOut (m ((c : Thread nD τ).loc main_arg0)) (m ((c : Thread nD τ).loc main_arg5)) (m ((c : Thread nD τ).loc main_arg6))
      ∧ r.2.mem ((c.tc : Thread nD τ).loc main_v0_1) = colourOut (m ((c : Thread nD τ).loc main_arg1))
      ∧ r.2.mem ((c.tc : Thread nD τ).loc main_v0_2) = opacityOut (m ((c : Thread nD τ).loc main_arg2))
      ∧ r.2.mem ((c.tc : Thread nD τ).loc main_v0_3)
        = covOut (m ((c : Thread nD τ).loc main_arg0)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨((h.1.1 c).1 7).trans (image_array m c), ((h.1.1 c).1 8).trans (colour_array m c),
      ((h.1.1 c).1 9).trans (opacity_array m c), ((h.1.1 c).1 10).trans (cov_array m c), h.2.1 c⟩)
    (θ_run_and (run_main m ρ) (arguments_kept m ρ))

end Cert.Splat

end
-- ==== Proof.RefRows.lean ====
/-
  The reference's steps (`RefStages.lean`) at one point of the cloud, over the extended reals.
-/
module

public import proofs.«01_k».proof.Proof.RefStages
public import proofs.«01_k».proof.Proof.Arrays
public import Idealize.ShloMosaic.Lib.Pointwise

@[expose] public section

set_option maxRecDepth 16384

noncomputable section

namespace Cert.Splat.Ref

open Cert.ReferenceIdeal Cert.ReferenceIdeal.Gen
open Idealize.ShloMosaic Idealize.ShloMosaic.TcCoe Idealize.ShloMosaic.Tactic

variable (v : Vec Ideal S1000000x3 .f32) (n : Fin 1000000)

theorem camera_at (p : Vec Ideal S1000000x3 .f32) (r : Vec Ideal S3x3 .f32) (t : Vec Ideal S3 .f32) (i : Fin 3) :
    camera p r t (ix2 n i) = Splat.camera (fun k => p (ix2 n k)) (rotOf r) (tranOf t) i := by
  pointwise [camera]
  rw [Fin.sum_univ_three]; rfl

theorem col0_at : col0 v (ix1 n) = v (ix2 n 0) := by pointwise [col0]
theorem col1_at : col1 v (ix1 n) = v (ix2 n 1) := by pointwise [col1]
theorem col2_at : col2 v (ix1 n) = v (ix2 n 2) := by pointwise [col2]

theorem quad0_at (u : Vec Ideal S1000000x4 .f32) : quad0 u (ix1 n) = u (ix2 n 0) := by pointwise [quad0]
theorem quad1_at (u : Vec Ideal S1000000x4 .f32) : quad1 u (ix1 n) = u (ix2 n 1) := by pointwise [quad1]
theorem quad2_at (u : Vec Ideal S1000000x4 .f32) : quad2 u (ix1 n) = u (ix2 n 2) := by pointwise [quad2]
theorem quad3_at (u : Vec Ideal S1000000x4 .f32) : quad3 u (ix1 n) = u (ix2 n 3) := by pointwise [quad3]

theorem upright_at (x : Vec Ideal S1000000 .f32) : upright x (ix2 n 0) = x (ix1 n) := by pointwise [upright]

theorem image_at0 : image v (ix2 n 0) = Ideal.div (v (ix2 n 0)) (v (ix2 n 2)) := by
  pointwise [image, upright, col0, col2]

theorem image_at1 : image v (ix2 n 1) = Ideal.div (v (ix2 n 1)) (v (ix2 n 2)) := by
  pointwise [image, upright, col1, col2]

theorem spatial_at (a : Vec Ideal S1000000x3x3 .f32) (i j : Fin 3) : spatial a (ix3 n i j)
    = dot3 (F := Ideal) (fun k => a (ix3 n i k)) (fun k => a (ix3 n j k)) := by
  pointwise [spatial]
  rw [Fin.sum_univ_three]; rfl

theorem planeCov_at (w : Vec Ideal S1000000x2x3 .f32) (m : Vec Ideal S1000000x3x3 .f32) (i j : Fin 2) : planeCov w m (ix3 n i j)
    = dot3 (F := Ideal) (fun k => dot3 (F := Ideal) (fun l => w (ix3 n i l)) (fun l => m (ix3 n l k))) (fun k => w (ix3 n j k)) := by
  pointwise [planeCov]
  simp only [Fin.sum_univ_three]; rfl

theorem invDepth_at : invDepth v (ix1 n) = FloatOps.divf (Scalar.ofBits .f32 0x3F800000#32 : Ideal .f32) (v (ix2 n 2)) := by
  unfold invDepth
  pointwise [fill, col2]

theorem pull_at (x z : Vec Ideal S1000000 .f32) : pull x z (ix1 n) = -x (ix1 n) * z (ix1 n) * z (ix1 n) := by
  pointwise [pull]

/-- The derivative of the projection, entry by entry. -/
theorem jacobian_at (i : Fin 2) (k : Fin 3) : jacobian v (ix3 n i k)
    = (![![invDepth v (ix1 n), 0, pull (col0 v) (invDepth v) (ix1 n)],
        ![0, invDepth v (ix1 n), pull (col1 v) (invDepth v) (ix1 n)]] : Fin 2 → Fin 3 → EReal) i k := by
  obtain rfl | rfl := two_cases i <;> obtain rfl | rfl | rfl := three_cases k
  all_goals (pointwise [jacobian, upright, fill])
  all_goals rfl

theorem slopes_at (r : Vec Ideal S3x3 .f32) (i : Fin 2) (j : Fin 3) : slopes v r (ix3 n i j)
    = dot3 (F := Ideal) (fun k => jacobian v (ix3 n i k)) (fun k => rotOf r k j) := by
  pointwise [slopes]
  rw [Fin.sum_univ_three]; rfl

theorem rotation_at (u : Vec Ideal S1000000x4 .f32) (i j : Fin 3) : rotation u (ix3 n i j) = Splat.rotation (F := Ideal) (fun k => u (ix2 n k)) i j := by
  obtain rfl | rfl | rfl := three_cases i <;> obtain rfl | rfl | rfl := three_cases j
  all_goals (pointwise [rotation, upright, onDiag, offPlus, offMinus, fill, quad0, quad1, quad2, quad3])
  all_goals first | rfl | (rw [← Ideal.ofBits_one_f32]; rfl)

theorem axes_at (q : Vec Ideal S1000000x4 .f32) (s : Vec Ideal S1000000x3 .f32) (i j : Fin 3) : axes q s (ix3 n i j)
    = FloatOps.mulf (rotation (unit q) (ix3 n i j)) (extent (F := Ideal) (s (ix2 n j))) := by
  pointwise [axes]
  rfl

end Cert.Splat.Ref

end
-- ==== Proof.RowMath.lean ====
/-
  The kernel's formulas for one point (`Row.lean`) over the extended reals, against the shapes the reference's formulas
  take. What concerns the quaternion holds at every input; the products with the camera's rotation and the symmetry of
  the projected covariance need the numbers to be finite and the depth not to be zero.
-/
module

public import proofs.«01_k».proof.Proof.Row
public import Idealize.ShloMosaic.Lib.IdealHost

@[expose] public section

noncomputable section

namespace Cert.Splat

open Idealize.ShloMosaic

/-! ## Finite extended reals -/

/-- `x` is a real number. -/
def Finite (x : EReal) : Prop := ∃ r : ℝ, (r : EReal) = x

theorem Finite.of_ne {x : EReal} (ht : x ≠ ⊤) (hb : x ≠ ⊥) : Finite x := ⟨x.toReal, EReal.coe_toReal ht hb⟩

theorem Finite.of_abs {x : EReal} (h : max x (-x) < ⊤) : Finite x := by
  refine .of_ne (fun e => ?_) (fun e => ?_) <;> subst e <;> simp at h

theorem Finite.add {x y : EReal} : Finite x → Finite y → Finite (x + y) := by
  rintro ⟨a, rfl⟩ ⟨b, rfl⟩; exact ⟨a + b, EReal.coe_add a b⟩
theorem Finite.sub {x y : EReal} : Finite x → Finite y → Finite (x - y) := by
  rintro ⟨a, rfl⟩ ⟨b, rfl⟩; exact ⟨a - b, EReal.coe_sub a b⟩
theorem Finite.mul {x y : EReal} : Finite x → Finite y → Finite (x * y) := by
  rintro ⟨a, rfl⟩ ⟨b, rfl⟩; exact ⟨a * b, EReal.coe_mul a b⟩
theorem Finite.neg {x : EReal} : Finite x → Finite (-x) := by
  rintro ⟨a, rfl⟩; exact ⟨-a, EReal.coe_neg a⟩
theorem Finite.max {x y : EReal} : Finite x → Finite y → Finite (max x y) := by
  intro hx hy; rcases max_choice x y with h | h <;> rw [h] <;> assumption

theorem dot3_finite {a b : Fin 3 → EReal} (ha : ∀ k, Finite (a k)) (hb : ∀ k, Finite (b k)) : Finite (dot3 (F := Ideal) a b) :=
  (((ha 0).mul (hb 0)).add ((ha 1).mul (hb 1))).add ((ha 2).mul (hb 2))

theorem dot3_comm (a b : Fin 3 → EReal) : dot3 (F := Ideal) a b = dot3 (F := Ideal) b a := by
  change a 0 * b 0 + a 1 * b 1 + a 2 * b 2 = b 0 * a 0 + b 1 * a 1 + b 2 * a 2
  rw [mul_comm (a 0), mul_comm (a 1), mul_comm (a 2)]

/-! ## The constants -/

theorem one_word : (Scalar.ofBits .f32 0x3F800000#32 : Ideal .f32) = (1 : EReal) := Ideal.ofBits_one_f32

theorem two_word : Finite (Ideal.ofBits .f32 0x40000000#32) := by
  refine ⟨2, ?_⟩
  simp [Ideal.ofBits, Ideal.ieee, -EReal.coe_mul]; norm_num

theorem length_word : ∃ e : ℝ, 0 < e ∧ (e : EReal) = Ideal.ofBits .f32 0x322BCC77#32 := by
  refine ⟨11258999 * (2 : ℝ) ^ (-50 : Int), by positivity, ?_⟩
  simp [Ideal.ofBits, Ideal.ieee, -EReal.coe_mul]

theorem extent_word : Finite (Ideal.ofBits .f32 0x38D1B717#32) := by
  refine ⟨13743895 * (2 : ℝ) ^ (-37 : Int), ?_⟩
  simp [Ideal.ofBits, Ideal.ieee, -EReal.coe_mul]

/-! ## The quaternion -/

/-- The sum of the squares of a quaternion. -/
def norm2 (q : Fin 4 → EReal) : EReal := q 0 * q 0 + q 1 * q 1 + q 2 * q 2 + q 3 * q 3

/-- Its length, moved off zero. -/
def length (q : Fin 4 → EReal) : EReal := Ideal.sqrt (norm2 q) + Ideal.ofBits .f32 0x322BCC77#32

theorem square_nonneg (x : EReal) : 0 ≤ x * x := by
  induction x with
  | bot => simp
  | coe r => exact_mod_cast mul_self_nonneg r
  | top => simp

theorem norm2_nonneg (q : Fin 4 → EReal) : 0 ≤ norm2 q :=
  add_nonneg (add_nonneg (add_nonneg (square_nonneg _) (square_nonneg _)) (square_nonneg _)) (square_nonneg _)

/-- The length is a positive real, or infinite with a coordinate. -/
theorem length_cases (q : Fin 4 → EReal) : length q = ⊤ ∨ ((∃ l : ℝ, 0 < l ∧ length q = l) ∧ ∀ k, Finite (q k)) := by
  obtain ⟨e, he, hw⟩ := length_word
  have hn := norm2_nonneg q
  unfold length
  rw [← hw]
  by_cases ht : norm2 q = ⊤
  · left; rw [ht, Ideal.sqrt_top]; exact EReal.top_add_of_ne_bot (EReal.coe_ne_bot e)
  · right
    refine ⟨?_, fun k => ?_⟩
    · obtain ⟨n, hn'⟩ := Finite.of_ne ht (fun h => by rw [h] at hn; simp at hn)
      rw [← hn'] at hn ⊢
      have h0 : 0 ≤ n := by exact_mod_cast hn
      refine ⟨Real.sqrt n + e, by positivity, ?_⟩
      rw [Ideal.sqrt_coe, if_neg (not_lt.mpr h0), EReal.coe_add]
    · have key : q k * q k ≠ ⊤ := by
        intro h
        apply ht
        have hle : q k * q k ≤ norm2 q := by
          have h0 := square_nonneg (q 0); have h1 := square_nonneg (q 1); have h2 := square_nonneg (q 2); have h3 := square_nonneg (q 3)
          unfold norm2
          fin_cases k
          · exact (le_add_of_nonneg_right h1).trans ((le_add_of_nonneg_right h2).trans (le_add_of_nonneg_right h3))
          · exact (le_add_of_nonneg_left h0).trans ((le_add_of_nonneg_right h2).trans (le_add_of_nonneg_right h3))
          · exact (le_add_of_nonneg_left (add_nonneg h0 h1)).trans (le_add_of_nonneg_right h3)
          · exact le_add_of_nonneg_left (add_nonneg (add_nonneg h0 h1) h2)
        exact top_le_iff.mp (h ▸ hle)
      refine .of_ne (fun h => key ?_) (fun h => key ?_) <;> rw [h] <;> simp

theorem length_ne_zero (q : Fin 4 → EReal) : length q ≠ 0 := by
  rcases length_cases q with h | ⟨⟨l, hl, h⟩, -⟩
  · rw [h]; simp
  · rw [h]; exact_mod_cast hl.ne'

theorem unit_eq_mul (q : Fin 4 → EReal) (k : Fin 4) : unit (F := Ideal) q k = q k * Ideal.div 1 (length q) := by
  rw [← one_word]; rfl

/-- Dividing by the length is multiplying by one over it. -/
theorem unit_eq_div (q : Fin 4 → EReal) (k : Fin 4) : Ideal.div (q k) (length q) = unit (F := Ideal) q k := by
  rw [unit_eq_mul, Ideal.mul_one_div (length_ne_zero q)]

/-- The unit quaternion is finite, even of an infinite one. -/
theorem unit_finite (q : Fin 4 → EReal) (k : Fin 4) : Finite (unit (F := Ideal) q k) := by
  rw [unit_eq_mul]
  rcases length_cases q with h | ⟨⟨l, hl, h⟩, hq⟩
  · refine ⟨0, ?_⟩
    rw [h, Ideal.div, if_neg (by simp)]; simp
  · refine (hq k).mul ⟨1 / l, ?_⟩
    rw [h, Ideal.div_coe hl.ne', one_mul]

theorem onDiag_finite {a b : EReal} (ha : Finite a) (hb : Finite b) : Finite (onDiag (F := Ideal) a b) := by
  refine Finite.sub ⟨1, one_word.symm⟩ (two_word.mul ((ha.mul ha).add (hb.mul hb)))
theorem offPlus_finite {a b c d : EReal} (ha : Finite a) (hb : Finite b) (hc : Finite c) (hd : Finite d) :
    Finite (offPlus (F := Ideal) a b c d) := two_word.mul ((ha.mul hb).add (hc.mul hd))
theorem offMinus_finite {a b c d : EReal} (ha : Finite a) (hb : Finite b) (hc : Finite c) (hd : Finite d) :
    Finite (offMinus (F := Ideal) a b c d) := two_word.mul ((ha.mul hb).sub (hc.mul hd))

theorem rotation_finite {u : Fin 4 → EReal} (h : ∀ k, Finite (u k)) (i j : Fin 3) : Finite (rotation (F := Ideal) u i j) := by
  fin_cases i <;> fin_cases j
  · exact onDiag_finite (h _) (h _)
  · exact offMinus_finite (h _) (h _) (h _) (h _)
  · exact offPlus_finite (h _) (h _) (h _) (h _)
  · exact offPlus_finite (h _) (h _) (h _) (h _)
  · exact onDiag_finite (h _) (h _)
  · exact offMinus_finite (h _) (h _) (h _) (h _)
  · exact offMinus_finite (h _) (h _) (h _) (h _)
  · exact offPlus_finite (h _) (h _) (h _) (h _)
  · exact onDiag_finite (h _) (h _)

/-! ## The covariance in space -/

theorem axes_finite (q : Fin 4 → EReal) {s : Fin 3 → EReal} (hs : ∀ k, Finite (s k)) (i j : Fin 3) : Finite (axes (F := Ideal) q s i j) :=
  (rotation_finite (unit_finite q) i j).mul (((hs j).max (hs j).neg).add extent_word)

/-- Every entry is the product of two rows of the axes, in either order. -/
theorem spatial_eq (q : Fin 4 → EReal) (s : Fin 3 → EReal) (i j : Fin 3) :
    dot3 (F := Ideal) (axes (F := Ideal) q s i) (axes (F := Ideal) q s j) = spatial (F := Ideal) q s i j := by
  fin_cases i <;> fin_cases j <;> first | rfl | exact dot3_comm _ _

theorem spatial_finite (q : Fin 4 → EReal) {s : Fin 3 → EReal} (hs : ∀ k, Finite (s k)) (i j : Fin 3) : Finite (spatial (F := Ideal) q s i j) :=
  spatial_eq q s i j ▸ dot3_finite (axes_finite q hs i) (axes_finite q hs j)

theorem spatial_symm (q : Fin 4 → EReal) (s : Fin 3 → EReal) (i j : Fin 3) : spatial (F := Ideal) q s i j = spatial (F := Ideal) q s j i := by
  rw [← spatial_eq, ← spatial_eq, dot3_comm]

/-! ## The projection -/

section Camera

variable {p : Fin 3 → EReal} {r : Fin 3 → Fin 3 → EReal} {t : Fin 3 → EReal}

theorem camera_finite (hp : ∀ k, Finite (p k)) (hr : ∀ i j, Finite (r i j)) (ht : ∀ k, Finite (t k)) (i : Fin 3) :
    Finite (camera (F := Ideal) p r t i) := (dot3_finite hp (hr i)).add (ht i)

theorem invDepth_eq : invDepth (F := Ideal) p r t = Ideal.div 1 (camera (F := Ideal) p r t 2) := by
  rw [← one_word]; rfl

/-- A camera coordinate over the depth. -/
theorem planar_eq (hz : camera (F := Ideal) p r t 2 ≠ 0) (i : Fin 3) :
    Ideal.div (camera (F := Ideal) p r t i) (camera (F := Ideal) p r t 2) = planar (F := Ideal) p r t i := by
  rw [← Ideal.mul_one_div hz, ← invDepth_eq]; rfl

theorem invDepth_finite (hp : ∀ k, Finite (p k)) (hr : ∀ i j, Finite (r i j)) (ht : ∀ k, Finite (t k))
    (hz : camera (F := Ideal) p r t 2 ≠ 0) : Finite (invDepth (F := Ideal) p r t) := by
  obtain ⟨z, h⟩ := camera_finite hp hr ht 2
  have h0 : z ≠ 0 := by rintro rfl; exact hz h.symm
  exact ⟨1 / z, by rw [invDepth_eq, ← h, Ideal.div_coe h0, one_mul]⟩

theorem slope_finite (hp : ∀ k, Finite (p k)) (hr : ∀ i j, Finite (r i j)) (ht : ∀ k, Finite (t k))
    (hz : camera (F := Ideal) p r t 2 ≠ 0) (i j : Fin 3) : Finite (slope (F := Ideal) p r t i j) :=
  have hi := invDepth_finite hp hr ht hz
  hi.mul ((hr i j).sub (((camera_finite hp hr ht i).mul hi).mul (hr 2 j)))

/-- One over the depth taken out of a row of the derivative times the rotation. -/
theorem slope_of_finite {x z a b c : EReal} (hx : Finite x) (hz : Finite z) (ha : Finite a) (hb : Finite b) (hc : Finite c) :
    z * a + 0 * b + -x * z * z * c = z * (a - x * z * c) := by
  obtain ⟨x, rfl⟩ := hx; obtain ⟨z, rfl⟩ := hz; obtain ⟨a, rfl⟩ := ha; obtain ⟨b, rfl⟩ := hb; obtain ⟨c, rfl⟩ := hc
  rw [zero_mul, add_zero]
  simp only [← EReal.coe_neg, ← EReal.coe_mul, ← EReal.coe_sub, ← EReal.coe_add]
  congr 1; ring

end Camera

/-! ## The covariance in the image plane -/

theorem form_eq (a b : Fin 3 → EReal) {m : Fin 3 → Fin 3 → EReal} (hs : ∀ i j, m i j = m j i) :
    dot3 (F := Ideal) (fun k => dot3 (F := Ideal) a (fun l => m l k)) b = form (F := Ideal) a b m := by
  have h : (fun k => dot3 (F := Ideal) a (fun l => m l k)) = fun k => dot3 (F := Ideal) a (m k) :=
    funext fun k => congrArg (dot3 (F := Ideal) a) (funext fun l => hs l k)
  rw [h]; rfl

/-- A symmetric matrix between two rows, in either order. -/
theorem form_swap {a b : Fin 3 → EReal} {m : Fin 3 → Fin 3 → EReal} (ha : ∀ k, Finite (a k)) (hb : ∀ k, Finite (b k))
    (hm : ∀ i j, Finite (m i j)) (hs : ∀ i j, m i j = m j i) : form (F := Ideal) b a m = form (F := Ideal) a b m := by
  choose a' ha' using ha
  choose b' hb' using hb
  choose m' hm' using hm
  have h10 : m' 1 0 = m' 0 1 := by have := hs 1 0; rw [← hm', ← hm'] at this; exact_mod_cast this
  have h20 : m' 2 0 = m' 0 2 := by have := hs 2 0; rw [← hm', ← hm'] at this; exact_mod_cast this
  have h21 : m' 2 1 = m' 1 2 := by have := hs 2 1; rw [← hm', ← hm'] at this; exact_mod_cast this
  change (b 0 * m 0 0 + b 1 * m 0 1 + b 2 * m 0 2) * a 0 + (b 0 * m 1 0 + b 1 * m 1 1 + b 2 * m 1 2) * a 1
      + (b 0 * m 2 0 + b 1 * m 2 1 + b 2 * m 2 2) * a 2
    = (a 0 * m 0 0 + a 1 * m 0 1 + a 2 * m 0 2) * b 0 + (a 0 * m 1 0 + a 1 * m 1 1 + a 2 * m 1 2) * b 1
      + (a 0 * m 2 0 + a 1 * m 2 1 + a 2 * m 2 2) * b 2
  simp only [← ha', ← hb', ← hm', ← EReal.coe_mul, ← EReal.coe_add, h10, h20, h21]
  congr 1; ring

end Cert.Splat

end
-- ==== Proof.View.lean ====
/-
  The precondition read: every position, scale, entry of the camera's rotation and coordinate of its position is finite,
  and no point lies in the camera's plane.
-/
module

public import proofs.«01_k».proof.Defs
public import proofs.«01_k».proof.Proof.RefRows
public import proofs.«01_k».proof.Proof.RowMath

@[expose] public section

set_option maxRecDepth 16384

noncomputable section

namespace Cert.Splat

open Idealize.ShloMosaic Idealize.ShloMosaic.TcCoe Idealize.ShloMosaic.Tactic

/-- The side conditions of the precondition's operations. -/
instance view_facts : Cert.Pre_in_view.Facts where
  transposes_S3x3_S3x3_1_0 := by decide
  bcast_S3_S1x3_1 := by decide
  bcast_S1x3_S1000000x3_0_1 := by decide
  slices_S1000000x3_S1000000x1_0_2 := by decide
  shapeCasts_S1000000x1_S1000000 := by decide
  bcast_S_S1000000x3 := by decide
  bcast_S_S3x3 := by decide
  bcast_S_S3 := by decide
  bcast_S_S1000000 := by decide
  dot_S1000000x3_S3x3_S1000000x3_1_0_0_1_n_n_wf := by decide

theorem inf_word : Ideal.ofBits .f32 0x7F800000#32 = ⊤ := by simp [Ideal.ofBits, Ideal.ieee]

/-- A number whose absolute value compares below infinity is finite. -/
theorem finite_of_cmp {x : EReal} (h : Ideal.cmp .olt (max x (-x)) (Ideal.ofBits .f32 0x7F800000#32) = 1#1) : Finite x := by
  rw [inf_word] at h
  apply Finite.of_abs
  by_contra hn
  simp [Ideal.cmp, hn] at h

/-- A number that compares unequal to zero is not zero. -/
theorem ne_zero_of_cmp {x : EReal} (h : Ideal.cmp .une x (Ideal.ofBits .f32 0x00000000#32) = 1#1) : x ≠ 0 := by
  rw [Ideal.ofBits_zero_f32] at h
  rintro rfl
  simp [Ideal.cmp] at h

section

open Cert.Pre_in_view

variable {a0 a1 : Vec Ideal S1000000x3 .f32} {a2 : Vec Ideal S1000000x1 .f32} {a3 : Vec Ideal S1000000x4 .f32} {a4 : Vec Ideal S1000000x3 .f32}
  {a5 : Vec Ideal S3x3 .f32} {a6 : Vec Ideal S3 .f32}

theorem position_finite (h : (fn (F := Ideal) a0 a1 a2 a3 a4 a5 a6).1 = fun _ => 1#1) (y : S1000000x3.Idx) : Finite (a0 y) :=
  finite_of_cmp (congrFun h y)

theorem scale_finite (h : (fn (F := Ideal) a0 a1 a2 a3 a4 a5 a6).2.1 = fun _ => 1#1) (y : S1000000x3.Idx) : Finite (a4 y) :=
  finite_of_cmp (congrFun h y)

theorem rot_finite (h : (fn (F := Ideal) a0 a1 a2 a3 a4 a5 a6).2.2.1 = fun _ => 1#1) (y : S3x3.Idx) : Finite (a5 y) :=
  finite_of_cmp (congrFun h y)

theorem tran_finite (h : (fn (F := Ideal) a0 a1 a2 a3 a4 a5 a6).2.2.2.1 = fun _ => 1#1) (y : S3.Idx) : Finite (a6 y) :=
  finite_of_cmp (congrFun h y)

/-- The depth the precondition tests is the third camera coordinate. -/
theorem depth_ne_zero (h : (fn (F := Ideal) a0 a1 a2 a3 a4 a5 a6).2.2.2.2 = fun _ => 1#1) (n : Fin 1000000) :
    camera (F := Ideal) (fun k => a0 (ix2 n k)) (rotOf a5) (tranOf a6) 2 ≠ 0 := by
  rw [← Ref.camera_at, ← Ref.col2_at (Ref.camera a0 a5 a6)]
  exact ne_zero_of_cmp (congrFun h (ix1 n))

end

end Cert.Splat

end
-- ==== Proof.RefSums.lean ====
/-
  The two steps of the reference that add up squares along a row: the distance to the camera and the length of a
  quaternion, at one point of the cloud, over the extended reals.
-/
module

public import proofs.«01_k».proof.Proof.RefStages
public import Idealize.ShloMosaic.Lib.Pointwise

@[expose] public section

set_option maxRecDepth 16384

noncomputable section

namespace Cert.Splat.Ref

open Cert.ReferenceIdeal Cert.ReferenceIdeal.Gen
open Idealize.ShloMosaic Idealize.ShloMosaic.TcCoe Idealize.ShloMosaic.Tactic

variable (n : Fin 1000000)

theorem image_at2 (v : Vec Ideal S1000000x3 .f32) : image v (ix2 n 2) = Ideal.sqrt (v (ix2 n 0) * v (ix2 n 0) + v (ix2 n 1) * v (ix2 n 1) + v (ix2 n 2) * v (ix2 n 2)) := by
  pointwise [image, upright]
  rw [Fin.sum_univ_three]

theorem unit_at (q : Vec Ideal S1000000x4 .f32) (k : Fin 4) : unit q (ix2 n k)
    = Ideal.div (q (ix2 n k)) (Ideal.sqrt (q (ix2 n 0) * q (ix2 n 0) + q (ix2 n 1) * q (ix2 n 1) + q (ix2 n 2) * q (ix2 n 2) + q (ix2 n 3) * q (ix2 n 3))
      + Ideal.ofBits .f32 0x322BCC77#32) := by
  pointwise [unit]
  rw [Fin.sum_univ_four]

end Cert.Splat.Ref

end
-- ==== Proof.Equal.lean ====
/-
  The kernel's four results and the reference's are the same arrays: the plane coordinates where no depth is zero, the
  colours and opacities everywhere, the covariances where besides the numbers are finite.
-/
module

public import proofs.«01_k».proof.Proof.RefRows
public import proofs.«01_k».proof.Proof.RefSums
public import proofs.«01_k».proof.Proof.RowMath

@[expose] public section

set_option maxRecDepth 16384

noncomputable section

namespace Cert.Splat

open Cert.ReferenceIdeal Cert.ReferenceIdeal.Gen
open Idealize.ShloMosaic Idealize.ShloMosaic.TcCoe Idealize.ShloMosaic.Tactic

variable {p : Vec Ideal S1000000x3 .f32} {q : Vec Ideal S1000000x4 .f32} {s : Vec Ideal S1000000x3 .f32} {r : Vec Ideal S3x3 .f32} {t : Vec Ideal S3 .f32}

/-! ## Plane coordinates and distances -/

theorem image_eq (hz : ∀ n, camera (F := Ideal) (fun k => p (ix2 n k)) (rotOf r) (tranOf t) 2 ≠ 0) :
    Ref.image (Ref.camera p r t) = imageOut (F := Ideal) p r t := by
  funext y
  idx_vars y
  change _ = imageRow (F := Ideal) _ _ _ _
  obtain rfl | rfl | rfl := three_cases y1
  · rw [Ref.image_at0, Ref.camera_at, Ref.camera_at]; exact planar_eq (hz y0) 0
  · rw [Ref.image_at1, Ref.camera_at, Ref.camera_at]; exact planar_eq (hz y0) 1
  · rw [Ref.image_at2, Ref.camera_at, Ref.camera_at, Ref.camera_at]; rfl

/-! ## Colours and opacities -/

theorem colour_eq (x : Vec Ideal S1000000x3 .f32) :
    Host.divf (F := Ideal) (φ := .f32) (broadcastInDim S1000000x3 ![] bcast_S_S1000000x3 (constant S_ .f32 0x3F800000#32))
      (addf (broadcastInDim S1000000x3 ![] bcast_S_S1000000x3 (constant S_ .f32 0x3F800000#32)) (Host.exp (Host.negf x)))
      = colourOut (F := Ideal) x := by
  funext y
  change Ideal.div (Ideal.ofBits .f32 0x3F800000#32) (Ideal.ofBits .f32 0x3F800000#32 + Ideal.exp (-x y)) = Ideal.logistic (x y)
  rw [Ideal.ofBits_one_f32]; rfl

theorem opacity_eq (x : Vec Ideal S1000000x1 .f32) :
    Host.divf (F := Ideal) (φ := .f32) (broadcastInDim S1000000x1 ![] bcast_S_S1000000x1 (constant S_ .f32 0x3F800000#32))
      (addf (broadcastInDim S1000000x1 ![] bcast_S_S1000000x1 (constant S_ .f32 0x3F800000#32)) (Host.exp (Host.negf x)))
      = opacityOut (F := Ideal) x := by
  funext y
  change Ideal.div (Ideal.ofBits .f32 0x3F800000#32) (Ideal.ofBits .f32 0x3F800000#32 + Ideal.exp (-x y)) = Ideal.logistic (x y)
  rw [Ideal.ofBits_one_f32]; rfl

/-! ## Covariances -/

theorem unit_row (n : Fin 1000000) : (fun k => Ref.unit q (ix2 n k)) = unit (F := Ideal) (fun k => q (ix2 n k)) :=
  funext fun k => (Ref.unit_at n q k).trans (unit_eq_div (fun k => q (ix2 n k)) k)

theorem axes_row (n : Fin 1000000) (i : Fin 3) :
    (fun j => Ref.axes q s (ix3 n i j)) = axes (F := Ideal) (fun k => q (ix2 n k)) (fun k => s (ix2 n k)) i :=
  funext fun j => by rw [Ref.axes_at, Ref.rotation_at, unit_row]; rfl

theorem spatial_row (n : Fin 1000000) (i j : Fin 3) : Ref.spatial (Ref.axes q s) (ix3 n i j)
    = spatial (F := Ideal) (fun k => q (ix2 n k)) (fun k => s (ix2 n k)) i j := by
  rw [Ref.spatial_at, axes_row, axes_row, spatial_eq]

section

variable (hp : ∀ y, Finite (p y)) (hs : ∀ y, Finite (s y)) (hr : ∀ y, Finite (r y)) (ht : ∀ y, Finite (t y))
  (hz : ∀ n, camera (F := Ideal) (fun k => p (ix2 n k)) (rotOf r) (tranOf t) 2 ≠ 0)

include hp hr ht hz

theorem slope_row0 (n : Fin 1000000) : (fun j => Ref.slopes (Ref.camera p r t) r (ix3 n 0 j))
    = slope (F := Ideal) (fun k => p (ix2 n k)) (rotOf r) (tranOf t) 0 := funext fun j => by
  have hc := camera_finite (p := fun k => p (ix2 n k)) (r := rotOf r) (t := tranOf t) (fun k => hp _) (fun i j => hr _) (fun k => ht _)
  have hi := invDepth_finite (p := fun k => p (ix2 n k)) (r := rotOf r) (t := tranOf t) (fun k => hp _) (fun i j => hr _) (fun k => ht _) (hz n)
  have ei : Ref.invDepth (Ref.camera p r t) (ix1 n) = invDepth (F := Ideal) (fun k => p (ix2 n k)) (rotOf r) (tranOf t) := by
    rw [Ref.invDepth_at, Ref.camera_at]; rfl
  have ex : Ref.pull (Ref.col0 (Ref.camera p r t)) (Ref.invDepth (Ref.camera p r t)) (ix1 n)
      = -camera (F := Ideal) (fun k => p (ix2 n k)) (rotOf r) (tranOf t) 0 * invDepth (F := Ideal) (fun k => p (ix2 n k)) (rotOf r) (tranOf t)
        * invDepth (F := Ideal) (fun k => p (ix2 n k)) (rotOf r) (tranOf t) := by
    rw [Ref.pull_at, Ref.col0_at, Ref.camera_at, ei]
  rw [Ref.slopes_at]
  simp only [Ref.jacobian_at, ei, ex]
  exact slope_of_finite (hc 0) hi (hr _) (hr _) (hr _)

theorem slope_row1 (n : Fin 1000000) : (fun j => Ref.slopes (Ref.camera p r t) r (ix3 n 1 j))
    = slope (F := Ideal) (fun k => p (ix2 n k)) (rotOf r) (tranOf t) 1 := funext fun j => by
  have hc := camera_finite (p := fun k => p (ix2 n k)) (r := rotOf r) (t := tranOf t) (fun k => hp _) (fun i j => hr _) (fun k => ht _)
  have hi := invDepth_finite (p := fun k => p (ix2 n k)) (r := rotOf r) (t := tranOf t) (fun k => hp _) (fun i j => hr _) (fun k => ht _) (hz n)
  have ei : Ref.invDepth (Ref.camera p r t) (ix1 n) = invDepth (F := Ideal) (fun k => p (ix2 n k)) (rotOf r) (tranOf t) := by
    rw [Ref.invDepth_at, Ref.camera_at]; rfl
  have ex : Ref.pull (Ref.col1 (Ref.camera p r t)) (Ref.invDepth (Ref.camera p r t)) (ix1 n)
      = -camera (F := Ideal) (fun k => p (ix2 n k)) (rotOf r) (tranOf t) 1 * invDepth (F := Ideal) (fun k => p (ix2 n k)) (rotOf r) (tranOf t)
        * invDepth (F := Ideal) (fun k => p (ix2 n k)) (rotOf r) (tranOf t) := by
    rw [Ref.pull_at, Ref.col1_at, Ref.camera_at, ei]
  rw [Ref.slopes_at]
  simp only [Ref.jacobian_at, ei, ex]
  refine Eq.trans ?_ (slope_of_finite (hc 1) hi (hr (ix2 1 j)) (hr (ix2 0 j)) (hr (ix2 2 j)))
  exact congrArg (· + _) (add_comm _ _)

include hs

theorem cov_eq : Ref.planeCov (Ref.slopes (Ref.camera p r t) r) (Ref.spatial (Ref.axes q s)) = covOut (F := Ideal) p q s r t := by
  funext y
  idx_vars y
  change _ = planeCov (F := Ideal) _ _ _ _ _ _ _
  have h0 := slope_row0 hp hr ht hz y0
  have h1 := slope_row1 hp hr ht hz y0
  have f := slope_finite (p := fun k => p (ix2 y0 k)) (r := rotOf r) (t := tranOf t) (fun k => hp _) (fun i j => hr _) (fun k => ht _) (hz y0)
  have hsym := spatial_symm (fun k => q (ix2 y0 k)) (fun k => s (ix2 y0 k))
  have hfin := spatial_finite (fun k => q (ix2 y0 k)) (s := fun k => s (ix2 y0 k)) (fun k => hs _)
  rw [Ref.planeCov_at]
  simp only [spatial_row]
  obtain rfl | rfl := two_cases y1 <;> obtain rfl | rfl := two_cases y2
  · rw [h0]; exact form_eq _ _ hsym
  · rw [h0, h1]; exact form_eq _ _ hsym
  · rw [h0, h1]; exact (form_eq _ _ hsym).trans (form_swap (f 0) (f 1) hfin hsym)
  · rw [h1]; exact form_eq _ _ hsym

end

end Cert.Splat

end
-- ==== Proof.Values.lean ====
/-
  The value claim: from the same arguments, in view of the camera, the kernel over the extended reals and the reference
  end with the same four results.
-/
module

public import proofs.«01_k».proof.Proof.View
public import proofs.«01_k».proof.Proof.Equal
public import proofs.«01_k».proof.Proof.Gen.ReferenceIdeal.Run

@[expose] public section

set_option maxRecDepth 16384

noncomputable section

namespace Cert.Splat

open Idealize.ShloMosaic Idealize.ShloMosaic.TcCoe Idealize.SL.Sem

theorem values : Cert.algebraic_KernelIdeal_ReferenceIdeal_pre_in_view := fun m g m' g' hpre hargs =>
  ⟨_, _, _, _, results (F := Ideal) m g,
    (θ_run Cert.ReferenceIdeal.defs _ _).mono
      (fun r h c => by
        obtain ⟨e0, e1, e2, e3, e4, e5, e6⟩ := hargs c
        obtain ⟨hp, hs, hr, ht, hd⟩ := hpre c
        refine ⟨(h c).1.trans ?_, (h c).2.1.trans ?_, (h c).2.2.1.trans ?_, (h c).2.2.2.1.trans ?_, (h c).2.2.2.2⟩
        · rw [e0, e5, e6]
          exact image_eq (depth_ne_zero hd)
        · rw [e1]; exact colour_eq _
        · rw [e2]; exact opacity_eq _
        · rw [Ref.result_cov, e0, e3, e4, e5, e6]
          exact cov_eq (position_finite hp) (scale_finite hs) (rot_finite hr) (tran_finite ht) (depth_ne_zero hd))
      (Cert.ReferenceIdeal.Value.run (F := Ideal) m' g')⟩

end Cert.Splat

end
-- ==== Proof.lean ====
/- The certificate's claims, from what the modules under Proof/ prove: the three programs run and leave their arguments
   as launched (`Frames.lean`), and the kernel over the extended reals and the reference end with the same results
   (`Values.lean`). -/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal

@[expose] public section

noncomputable section

namespace Cert.Proof

open Cert.Splat

theorem claim : Cert.Claim :=
  ⟨Cert.Kernel.Gen.facts, Cert.KernelIdeal.Gen.facts, Cert.ReferenceIdeal.Gen.facts, view_facts,
    frame_kernel, frame_ideal, fun m g _ => frame_ideal m g trivial, frame_reference, fun m g _ => frame_reference m g trivial,
    trivial, values⟩

end Cert.Proof

end
